-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "decay" .f32 0xC1F00000#32 ⊥
  ∧ IdealRules.named_const.Statement Cert.KernelIdeal.κ "ratio" .f32 0x40924925#32 ((32 / 7 : ℝ) : EReal)
  ∧ IdealRules.named_const.Statement Cert.KernelIdeal.κ "centre1" .f32 0xBF272F05#32 ((-32 / 49 : ℝ) : EReal)
  ∧ IdealRules.named_const.Statement Cert.KernelIdeal.κ "centre2" .f32 0xC0272F05#32 ((-128 / 49 : ℝ) : EReal)
  ∧ IdealRules.named_const.Statement Cert.KernelIdeal.κ "centre3" .f32 0xC0BC14E6#32 ((-288 / 49 : ℝ) : EReal)
  ∧ IdealRules.named_const.Statement Cert.KernelIdeal.κ "centre4" .f32 0xC1272F05#32 ((-512 / 49 : ℝ) : EReal)
  ∧ IdealRules.named_const.Statement Cert.KernelIdeal.κ "centre5" .f32 0xC1829CBC#32 ((-800 / 49 : ℝ) : EReal)
  ∧ IdealRules.named_const.Statement Cert.KernelIdeal.κ "centre6" .f32 0xC1BC14E6#32 ((-1152 / 49 : ℝ) : EReal)
  ∧ IdealRules.named_const.Statement Cert.KernelIdeal.κ "floor" .f32 0xC2A00000#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S2048x59 : Shape := ⟨2, ![2048, 59]⟩
abbrev S2x65536 : Shape := ⟨2, ![2, 65536]⟩
abbrev S65536x3 : Shape := ⟨2, ![65536, 3]⟩
abbrev S21x128 : Shape := ⟨2, ![21, 128]⟩
abbrev S42x128 : Shape := ⟨2, ![42, 128]⟩
abbrev S128 : Shape := ⟨1, ![128]⟩
abbrev S2x128x128 : Shape := ⟨3, ![2, 128, 128]⟩
abbrev S2x9x8 : Shape := ⟨3, ![2, 9, 8]⟩
abbrev S2x128x256 : Shape := ⟨3, ![2, 128, 256]⟩
abbrev S2x256x128 : Shape := ⟨3, ![2, 256, 128]⟩
abbrev S_ : Shape := ⟨0, ![]⟩

class Facts : Prop where
  bcast_S_S2048x59 : S_.BroadcastsInDim S2048x59 (![] : Fin 0 → Fin S2048x59.rank)
  bcast_S_S21x128 : S_.BroadcastsInDim S21x128 (![] : Fin 0 → Fin S21x128.rank)
  bcast_S_S42x128 : S_.BroadcastsInDim S42x128 (![] : Fin 0 → Fin S42x128.rank)
  bcast_S_S128 : S_.BroadcastsInDim S128 (![] : Fin 0 → Fin S128.rank)
  bcast_S_S2x128x128 : S_.BroadcastsInDim S2x128x128 (![] : Fin 0 → Fin S2x128x128.rank)
  bcast_S_S2x9x8 : S_.BroadcastsInDim S2x9x8 (![] : Fin 0 → Fin S2x9x8.rank)
  bcast_S_S2x128x256 : S_.BroadcastsInDim S2x128x256 (![] : Fin 0 → Fin S2x128x256.rank)
  bcast_S_S2x256x128 : S_.BroadcastsInDim S2x256x128 (![] : Fin 0 → Fin S2x256x128.rank)

variable [Facts]

def fn_part1 {F : FTy → Type} [FloatOps F] (main_arg8 : FVec F S2x128x128 .f32) (main_arg9 : FVec F S2x128x128 .f32) (main_arg10 : FVec F S2x9x8 .f32) (main_arg11 : FVec F S2x128x256 .f32) (main_arg12 : FVec F S2x256x128 .f32) (main_v2 : IVec S2048x59 1) (main_v5 : IVec S21x128 1) (main_v8 : IVec S42x128 1) (main_v11 : IVec S128 1) (main_v14 : IVec S2x128x128 1) (main_v17 : IVec S2x128x128 1) : IVec S2048x59 1 × IVec S21x128 1 × IVec S42x128 1 × IVec S128 1 × IVec S2x128x128 1 × IVec S2x128x128 1 × IVec S2x128x128 1 × IVec S2x128x128 1 × IVec S2x9x8 1 × IVec S2x128x256 1 × IVec S2x256x128 1 :=
  let main_v18 : FVec F S2x128x128 .f32 := Host.absf main_arg8
  let main_cst_5 : FVec F S_ .f32 := constant S_ .f32 0x7F800000#32
  let main_v19 : FVec F S2x128x128 .f32 := broadcastInDim S2x128x128 ![] bcast_S_S2x128x128 main_cst_5
  let main_v20 : IVec S2x128x128 1 := cmpf .olt main_v18 main_v19
  let main_v21 : FVec F S2x128x128 .f32 := Host.absf main_arg9
  let main_cst_6 : FVec F S_ .f32 := constant S_ .f32 0x7F800000#32
  let main_v22 : FVec F S2x128x128 .f32 := broadcastInDim S2x128x128 ![] bcast_S_S2x128x128 main_cst_6
  let main_v23 : IVec S2x128x128 1 := cmpf .olt main_v21 main_v22
  let main_v24 : FVec F S2x9x8 .f32 := Host.absf main_arg10
  let main_cst_7 : FVec F S_ .f32 := constant S_ .f32 0x7F800000#32
  let main_v25 : FVec F S2x9x8 .f32 := broadcastInDim S2x9x8 ![] bcast_S_S2x9x8 main_cst_7
  let main_v26 : IVec S2x9x8 1 := cmpf .olt main_v24 main_v25
  let main_v27 : FVec F S2x128x256 .f32 := Host.absf main_arg11
  let main_cst_8 : FVec F S_ .f32 := constant S_ .f32 0x7F800000#32
  let main_v28 : FVec F S2x128x256 .f32 := broadcastInDim S2x128x256 ![] bcast_S_S2x128x256 main_cst_8
  let main_v29 : IVec S2x128x256 1 := cmpf .olt main_v27 main_v28
  let main_v30 : FVec F S2x256x128 .f32 := Host.absf main_arg12
  let main_cst_9 : FVec F S_ .f32 := constant S_ .f32 0x7F800000#32
  let main_v31 : FVec F S2x256x128 .f32 := broadcastInDim S2x256x128 ![] bcast_S_S2x256x128 main_cst_9
  let main_v32 : IVec S2x256x128 1 := cmpf .olt main_v30 main_v31
  (main_v2, main_v5, main_v8, main_v11, main_v14, main_v17, main_v20, main_v23, main_v26, main_v29, main_v32)

def fn {F : FTy → Type} [FloatOps F] (main_arg0 : FVec F S2048x59 .f32) (main_arg1 : IVec S2x65536 32) (main_arg2 : FVec F S65536x3 .f32) (main_arg3 : FVec F S21x128 .f32) (main_arg4 : FVec F S42x128 .f32) (main_arg5 : FVec F S128 .f32) (main_arg6 : FVec F S2x128x128 .f32) (main_arg7 : FVec F S2x128x128 .f32) (main_arg8 : FVec F S2x128x128 .f32) (main_arg9 : FVec F S2x128x128 .f32) (main_arg10 : FVec F S2x9x8 .f32) (main_arg11 : FVec F S2x128x256 .f32) (main_arg12 : FVec F S2x256x128 .f32) : IVec S2048x59 1 × IVec S21x128 1 × IVec S42x128 1 × IVec S128 1 × IVec S2x128x128 1 × IVec S2x128x128 1 × IVec S2x128x128 1 × IVec S2x128x128 1 × IVec S2x9x8 1 × IVec S2x128x256 1 × IVec S2x256x128 1 :=
  let main_v0 : FVec F S2048x59 .f32 := Host.absf main_arg0
  let main_cst : FVec F S_ .f32 := constant S_ .f32 0x7F800000#32
  let main_v1 : FVec F S2048x59 .f32 := broadcastInDim S2048x59 ![] bcast_S_S2048x59 main_cst
  let main_v2 : IVec S2048x59 1 := cmpf .olt main_v0 main_v1
  let main_v3 : FVec F S21x128 .f32 := Host.absf main_arg3
  let main_cst_0 : FVec F S_ .f32 := constant S_ .f32 0x7F800000#32
  let main_v4 : FVec F S21x128 .f32 := broadcastInDim S21x128 ![] bcast_S_S21x128 main_cst_0
  let main_v5 : IVec S21x128 1 := cmpf .olt main_v3 main_v4
  let main_v6 : FVec F S42x128 .f32 := Host.absf main_arg4
  let main_cst_1 : FVec F S_ .f32 := constant S_ .f32 0x7F800000#32
  let main_v7 : FVec F S42x128 .f32 := broadcastInDim S42x128 ![] bcast_S_S42x128 main_cst_1
  let main_v8 : IVec S42x128 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S2x128x128 .f32 := Host.absf main_arg6
  let main_cst_3 : FVec F S_ .f32 := constant S_ .f32 0x7F800000#32
  let main_v13 : FVec F S2x128x128 .f32 := broadcastInDim S2x128x128 ![] bcast_S_S2x128x128 main_cst_3
  let main_v14 : IVec S2x128x128 1 := cmpf .olt main_v12 main_v13
  let main_v15 : FVec F S2x128x128 .f32 := Host.absf main_arg7
  let main_cst_4 : FVec F S_ .f32 := constant S_ .f32 0x7F800000#32
  let main_v16 : FVec F S2x128x128 .f32 := broadcastInDim S2x128x128 ![] bcast_S_S2x128x128 main_cst_4
  let main_v17 : IVec S2x128x128 1 := cmpf .olt main_v15 main_v16
  fn_part1 (F := F) main_arg8 main_arg9 main_arg10 main_arg11 main_arg12 main_v2 main_v5 main_v8 main_v11 main_v14 main_v17
-- ==== Kernel.lean ====
abbrev S2048x59 : Shape := ⟨2, ![2048, 59]⟩
abbrev S2x65536 : Shape := ⟨2, ![2, 65536]⟩
abbrev S65536x3 : Shape := ⟨2, ![65536, 3]⟩
abbrev S21x128 : Shape := ⟨2, ![21, 128]⟩
abbrev S42x128 : Shape := ⟨2, ![42, 128]⟩
abbrev S128 : Shape := ⟨1, ![128]⟩
abbrev S2x128x128 : Shape := ⟨3, ![2, 128, 128]⟩
abbrev S2x9x8 : Shape := ⟨3, ![2, 9, 8]⟩
abbrev S2x128x256 : Shape := ⟨3, ![2, 128, 256]⟩
abbrev S2x256x128 : Shape := ⟨3, ![2, 256, 128]⟩
abbrev S2048x14 : Shape := ⟨2, ![2048, 14]⟩
abbrev S2048x1 : Shape := ⟨2, ![2048, 1]⟩
abbrev S14x128 : Shape := ⟨2, ![14, 128]⟩
abbrev S1x128 : Shape := ⟨2, ![1, 128]⟩
abbrev S2048x128 : Shape := ⟨2, ![2048, 128]⟩
abbrev S2048x16 : Shape := ⟨2, ![2048, 16]⟩
abbrev S2048x21 : Shape := ⟨2, ![2048, 21]⟩
abbrev S1x128x128 : Shape := ⟨3, ![1, 128, 128]⟩
abbrev S128x128 : Shape := ⟨2, ![128, 128]⟩
abbrev S1x9x8 : Shape := ⟨3, ![1, 9, 8]⟩
abbrev S9x8 : Shape := ⟨2, ![9, 8]⟩
abbrev S2048x256 : Shape := ⟨2, ![2048, 256]⟩
abbrev S2048 : Shape := ⟨1, ![2048]⟩
abbrev S128x8 : Shape := ⟨2, ![128, 8]⟩
abbrev S2048x8 : Shape := ⟨2, ![2048, 8]⟩
abbrev S8 : Shape := ⟨1, ![8]⟩
abbrev S1x8 : Shape := ⟨2, ![1, 8]⟩
abbrev S1x1 : Shape := ⟨2, ![1, 1]⟩
abbrev S128x256 : Shape := ⟨2, ![128, 256]⟩
abbrev S8x256 : Shape := ⟨2, ![8, 256]⟩
abbrev S1x256 : Shape := ⟨2, ![1, 256]⟩
abbrev S256x16 : Shape := ⟨2, ![256, 16]⟩
abbrev S256x256 : Shape := ⟨2, ![256, 256]⟩
abbrev S256x5 : Shape := ⟨2, ![256, 5]⟩
abbrev S2048x5 : Shape := ⟨2, ![2048, 5]⟩
abbrev S256x2048 : Shape := ⟨2, ![256, 2048]⟩
abbrev S256x3 : Shape := ⟨2, ![256, 3]⟩
abbrev S2048x3 : Shape := ⟨2, ![2048, 3]⟩
abbrev S256x32 : Shape := ⟨2, ![256, 32]⟩
abbrev S2048x32 : Shape := ⟨2, ![2048, 32]⟩
abbrev S1x128x256 : Shape := ⟨3, ![1, 128, 256]⟩
abbrev S1x256x128 : Shape := ⟨3, ![1, 256, 128]⟩
abbrev S256x128 : Shape := ⟨2, ![256, 128]⟩
abbrev S1x2048x128 : Shape := ⟨3, ![1, 2048, 128]⟩

abbrev nBuf : Space → Nat
  | .hbm => 71
  | .vmem => 58
  | .smem => 4
  | _ => 0

abbrev bufTy : (tb : Table) → Fin (tcTables nBuf tb) → BufTy
  | .hbm, ⟨0, _⟩ => ⟨S2048x59, .f32⟩
  | .hbm, ⟨1, _⟩ => ⟨S2x65536, .i32⟩
  | .hbm, ⟨2, _⟩ => ⟨S65536x3, .f32⟩
  | .hbm, ⟨3, _⟩ => ⟨S21x128, .f32⟩
  | .hbm, ⟨4, _⟩ => ⟨S42x128, .f32⟩
  | .hbm, ⟨5, _⟩ => ⟨S128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x128x128, .f32⟩
  | .hbm, ⟨10, _⟩ => ⟨S2x9x8, .f32⟩
  | .hbm, ⟨11, _⟩ => ⟨S2x128x256, .f32⟩
  | .hbm, ⟨12, _⟩ => ⟨S2x256x128, .f32⟩
  | .hbm, ⟨13, _⟩ => ⟨S2048x14, .f32⟩
  | .hbm, ⟨14, _⟩ => ⟨S2048x14, .f32⟩
  | .hbm, ⟨15, _⟩ => ⟨S2048x14, .f32⟩
  | .hbm, ⟨16, _⟩ => ⟨S2048x14, .f32⟩
  | .hbm, ⟨17, _⟩ => ⟨S2048x1, .f32⟩
  | .hbm, ⟨18, _⟩ => ⟨S2048x1, .f32⟩
  | .hbm, ⟨19, _⟩ => ⟨S2048x1, .i32⟩
  | .hbm, ⟨20, _⟩ => ⟨S2048x1, .f32⟩
  | .hbm, ⟨21, _⟩ => ⟨S14x128, .f32⟩
  | .hbm, ⟨22, _⟩ => ⟨S14x128, .f32⟩
  | .hbm, ⟨23, _⟩ => ⟨S14x128, .f32⟩
  | .hbm, ⟨24, _⟩ => ⟨S1x128, .f32⟩
  | .hbm, ⟨25, _⟩ => ⟨S2048x128, .f32⟩
  | .hbm, ⟨26, _⟩ => ⟨S2048x16, .f32⟩
  | .hbm, ⟨27, _⟩ => ⟨S2048x16, .f32⟩
  | .hbm, ⟨28, _⟩ => ⟨S1x128x128, .f32⟩
  | .hbm, ⟨29, _⟩ => ⟨S128x128, .f32⟩
  | .hbm, ⟨30, _⟩ => ⟨S1x128x128, .f32⟩
  | .hbm, ⟨31, _⟩ => ⟨S128x128, .f32⟩
  | .hbm, ⟨32, _⟩ => ⟨S1x128x128, .f32⟩
  | .hbm, ⟨33, _⟩ => ⟨S128x128, .f32⟩
  | .hbm, ⟨34, _⟩ => ⟨S1x9x8, .f32⟩
  | .hbm, ⟨35, _⟩ => ⟨S9x8, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S1x9x8, .f32⟩
  | .hbm, ⟨40, _⟩ => ⟨S9x8, .f32⟩
  | .hbm, ⟨41, _⟩ => ⟨S2048x256, .f32⟩
  | .hbm, ⟨42, _⟩ => ⟨S1x128x128, .f32⟩
  | .hbm, ⟨43, _⟩ => ⟨S128x128, .f32⟩
  | .hbm, ⟨44, _⟩ => ⟨S1x128x256, .f32⟩
  | .hbm, ⟨45, _⟩ => ⟨S128x256, .f32⟩
  | .hbm, ⟨46, _⟩ => ⟨S1x256x128, .f32⟩
  | .hbm, ⟨47, _⟩ => ⟨S256x128, .f32⟩
  | .hbm, ⟨48, _⟩ => ⟨S2048x128, .f32⟩
  | .hbm, ⟨49, _⟩ => ⟨S1x128x128, .f32⟩
  | .hbm, ⟨50, _⟩ => ⟨S128x128, .f32⟩
  | .hbm, ⟨51, _⟩ => ⟨S1x128x128, .f32⟩
  | .hbm, ⟨52, _⟩ => ⟨S128x128, .f32⟩
  | .hbm, ⟨53, _⟩ => ⟨S1x128x128, .f32⟩
  | .hbm, ⟨54, _⟩ => ⟨S128x128, .f32⟩
  | .hbm, ⟨55, _⟩ => ⟨S1x9x8, .f32⟩
  | .hbm, ⟨56, _⟩ => ⟨S9x8, .f32⟩
  | .hbm, ⟨57, _⟩ => ⟨S2048x256, .f32⟩
  | .hbm, ⟨58, _⟩ => ⟨S2048x256, .f32⟩
  | .hbm, ⟨59, _⟩ => ⟨S2048x256, .f32⟩
  | .hbm, ⟨60, _⟩ => ⟨S1x9x8, .f32⟩
  | .hbm, ⟨61, _⟩ => ⟨S9x8, .f32⟩
  | .hbm, ⟨62, _⟩ => ⟨S2048x256, .f32⟩
  | .hbm, ⟨63, _⟩ => ⟨S1x128x128, .f32⟩
  | .hbm, ⟨64, _⟩ => ⟨S128x128, .f32⟩
  | .hbm, ⟨65, _⟩ => ⟨S1x128x256, .f32⟩
  | .hbm, ⟨66, _⟩ => ⟨S128x256, .f32⟩
  | .hbm, ⟨67, _⟩ => ⟨S1x256x128, .f32⟩
  | .hbm, ⟨68, _⟩ => ⟨S256x128, .f32⟩
  | .hbm, ⟨69, _⟩ => ⟨S2048x128, .f32⟩
  | .hbm, ⟨70, _⟩ => ⟨S1x2048x128, .f32⟩
  | .local _ .vmem, ⟨0, _⟩ => ⟨S2048x14, .f32⟩
  | .local _ .vmem, ⟨1, _⟩ => ⟨S2048x14, .f32⟩
  | .local _ .vmem, ⟨2, _⟩ => ⟨S2048x14, .f32⟩
  | .local _ .vmem, ⟨3, _⟩ => ⟨S2048x14, .f32⟩
  | .local _ .vmem, ⟨4, _⟩ => ⟨S2048x1, .f32⟩
  | .local _ .vmem, ⟨5, _⟩ => ⟨S2048x1, .f32⟩
  | .local _ .vmem, ⟨6, _⟩ => ⟨S14x128, .f32⟩
  | .local _ .vmem, ⟨7, _⟩ => ⟨S14x128, .f32⟩
  | .local _ .vmem, ⟨8, _⟩ => ⟨S14x128, .f32⟩
  | .local _ .vmem, ⟨9, _⟩ => ⟨S21x128, .f32⟩
  | .local _ .vmem, ⟨10, _⟩ => ⟨S1x128, .f32⟩
  | .local _ .vmem, ⟨11, _⟩ => ⟨S2048x128, .f32⟩
  | .local _ .vmem, ⟨12, _⟩ => ⟨S2048x16, .f32⟩
  | .local _ .vmem, ⟨13, _⟩ => ⟨S2048x16, .f32⟩
  | .local _ .vmem, ⟨14, _⟩ => ⟨S2048x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S256x16, .f32⟩
  | .local _ .vmem, ⟨22, _⟩ => ⟨S256x16, .f32⟩
  | .local _ .vmem, ⟨23, _⟩ => ⟨S2048x16, .f32⟩
  | .local _ .vmem, ⟨24, _⟩ => ⟨S256x256, .f32⟩
  | .local _ .vmem, ⟨25, _⟩ => ⟨S256x256, .f32⟩
  | .local _ .vmem, ⟨26, _⟩ => ⟨S2048x256, .f32⟩
  | .local _ .vmem, ⟨27, _⟩ => ⟨S2048x256, .f32⟩
  | .local _ .vmem, ⟨28, _⟩ => ⟨S256x256, .f32⟩
  | .local _ .vmem, ⟨29, _⟩ => ⟨S256x256, .f32⟩
  | .local _ .vmem, ⟨30, _⟩ => ⟨S2048x256, .f32⟩
  | .local _ .vmem, ⟨31, _⟩ => ⟨S2048x128, .f32⟩
  | .local _ .vmem, ⟨32, _⟩ => ⟨S128x128, .f32⟩
  | .local _ .vmem, ⟨33, _⟩ => ⟨S128x256, .f32⟩
  | .local _ .vmem, ⟨34, _⟩ => ⟨S256x128, .f32⟩
  | .local _ .vmem, ⟨35, _⟩ => ⟨S2048x128, .f32⟩
  | .local _ .vmem, ⟨36, _⟩ => ⟨S2048x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | .local _ .vmem, ⟨43, _⟩ => ⟨S256x16, .f32⟩
  | .local _ .vmem, ⟨44, _⟩ => ⟨S256x16, .f32⟩
  | .local _ .vmem, ⟨45, _⟩ => ⟨S2048x16, .f32⟩
  | .local _ .vmem, ⟨46, _⟩ => ⟨S256x256, .f32⟩
  | .local _ .vmem, ⟨47, _⟩ => ⟨S256x256, .f32⟩
  | .local _ .vmem, ⟨48, _⟩ => ⟨S2048x256, .f32⟩
  | .local _ .vmem, ⟨49, _⟩ => ⟨S2048x256, .f32⟩
  | .local _ .vmem, ⟨50, _⟩ => ⟨S256x256, .f32⟩
  | .local _ .vmem, ⟨51, _⟩ => ⟨S256x256, .f32⟩
  | .local _ .vmem, ⟨52, _⟩ => ⟨S2048x256, .f32⟩
  | .local _ .vmem, ⟨53, _⟩ => ⟨S2048x128, .f32⟩
  | .local _ .vmem, ⟨54, _⟩ => ⟨S128x128, .f32⟩
  | .local _ .vmem, ⟨55, _⟩ => ⟨S128x256, .f32⟩
  | .local _ .vmem, ⟨56, _⟩ => ⟨S256x128, .f32⟩
  | .local _ .vmem, ⟨57, _⟩ => ⟨S2048x128, .f32⟩
  | .local _ .smem, ⟨0, _⟩ => ⟨S9x8, .f32⟩
  | .local _ .smem, ⟨1, _⟩ => ⟨S9x8, .f32⟩
  | .local _ .smem, ⟨2, _⟩ => ⟨S9x8, .f32⟩
  | .local _ .smem, ⟨3, _⟩ => ⟨S9x8, .f32⟩
  | _, _ => ⟨S2048x59, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc1_stg4_0 : Ref sig .tc := ⟨.smem, 0, rfl⟩
abbrev cc2_stg5_0 : Ref sig .tc := ⟨.smem, 1, rfl⟩
abbrev cc4_stg4_0 : Ref sig .tc := ⟨.smem, 2, rfl⟩
abbrev cc5_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc3_sem0_0 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61

abbrev nD : Nat := 1
abbrev τ : Topo := Topo.v7x

variable {F : FTy → Type} [FloatOps F]

abbrev grid0 : Pipeline.Grid := .none

abbrev stage0_0 : Fin 1 → Memref sig .tc .vmem S2048x14 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S21x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := .none

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S9x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2048x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2048x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S2048x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 1 → Memref sig .tc .vmem S2048x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true]

abbrev stage2_5 : Fin 1 → Memref sig .tc .smem S9x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := .none

abbrev stage3_0 : Fin 1 → Memref sig .tc .vmem S2048x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S2048x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := .none

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .smem S9x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S2048x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S2048x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S2048x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S256x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S2048x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true]

abbrev stage5_4 : Fin 1 → Memref sig .tc .vmem S2048x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, true]

abbrev stage5_5 : Fin 1 → Memref sig .tc .smem S9x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S256x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev grid6 : Pipeline.Grid := .none

abbrev stage6_0 : Fin 1 → Memref sig .tc .vmem S2048x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S2048x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S256x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S2048x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
-- ==== KernelIdeal.lean ====
variable {F : FTy → Type} [FloatOps F] [Named F]
def κ : String → Option EReal := fun
  | "centre1" => some ((-32 / 49 : ℝ) : EReal)
  | "centre2" => some ((-128 / 49 : ℝ) : EReal)
  | "centre3" => some ((-288 / 49 : ℝ) : EReal)
  | "centre4" => some ((-512 / 49 : ℝ) : EReal)
  | "centre5" => some ((-800 / 49 : ℝ) : EReal)
  | "centre6" => some ((-1152 / 49 : ℝ) : EReal)
  | "decay" => some ⊥
  | "floor" => some ⊥
  | "ratio" => some ((32 / 7 : ℝ) : EReal)
  | _ => none
-- ==== ReferenceIdeal.lean ====
abbrev S2048x59 : Shape := ⟨2, ![2048, 59]⟩
abbrev S2x65536 : Shape := ⟨2, ![2, 65536]⟩
abbrev S65536x3 : Shape := ⟨2, ![65536, 3]⟩
abbrev S21x128 : Shape := ⟨2, ![21, 128]⟩
abbrev S42x128 : Shape := ⟨2, ![42, 128]⟩
abbrev S128 : Shape := ⟨1, ![128]⟩
abbrev S2x128x128 : Shape := ⟨3, ![2, 128, 128]⟩
abbrev S2x9x8 : Shape := ⟨3, ![2, 9, 8]⟩
abbrev S2x128x256 : Shape := ⟨3, ![2, 128, 256]⟩
abbrev S2x256x128 : Shape := ⟨3, ![2, 256, 128]⟩
abbrev S2048x42 : Shape := ⟨2, ![2048, 42]⟩
abbrev S1x2048x14x3 : Shape := ⟨4, ![1, 2048, 14, 3]⟩
abbrev S2048x1 : Shape := ⟨2, ![2048, 1]⟩
abbrev S2048 : Shape := ⟨1, ![2048]⟩
abbrev S1x2048 : Shape := ⟨2, ![1, 2048]⟩
abbrev S_ : Shape := ⟨0, ![]⟩
abbrev S2048x14 : Shape := ⟨2, ![2048, 14]⟩
abbrev S1x2048x14 : Shape := ⟨3, ![1, 2048, 14]⟩
abbrev S1x2048x1x3 : Shape := ⟨4, ![1, 2048, 1, 3]⟩
abbrev S1x2048x3 : Shape := ⟨3, ![1, 2048, 3]⟩
abbrev S1x2048x14x1 : Shape := ⟨4, ![1, 2048, 14, 1]⟩
abbrev S1x2048x1 : Shape := ⟨3, ![1, 2048, 1]⟩
abbrev S1 : Shape := ⟨1, ![1]⟩
abbrev S1x1x1 : Shape := ⟨3, ![1, 1, 1]⟩
abbrev S1x2048x128 : Shape := ⟨3, ![1, 2048, 128]⟩
abbrev S1x2048x42 : Shape := ⟨3, ![1, 2048, 42]⟩
abbrev S1x1x128 : Shape := ⟨3, ![1, 1, 128]⟩
abbrev S1x1x2048x3 : Shape := ⟨4, ![1, 1, 2048, 3]⟩
abbrev S1x2048x2048x3 : Shape := ⟨4, ![1, 2048, 2048, 3]⟩
abbrev S1x2048x2048 : Shape := ⟨3, ![1, 2048, 2048]⟩
abbrev S7 : Shape := ⟨1, ![7]⟩
abbrev S8 : Shape := ⟨1, ![8]⟩
abbrev S1x2048x2048x1 : Shape := ⟨4, ![1, 2048, 2048, 1]⟩
abbrev S1x1x1x8 : Shape := ⟨4, ![1, 1, 1, 8]⟩
abbrev S1x2048x2048x8 : Shape := ⟨4, ![1, 2048, 2048, 8]⟩
abbrev S1x1x2048 : Shape := ⟨3, ![1, 1, 2048]⟩
abbrev S1x2048x2048x9 : Shape := ⟨4, ![1, 2048, 2048, 9]⟩
abbrev S1x128x128 : Shape := ⟨3, ![1, 128, 128]⟩
abbrev S128x128 : Shape := ⟨2, ![128, 128]⟩
abbrev S1x2048x8x16 : Shape := ⟨4, ![1, 2048, 8, 16]⟩
abbrev S1x9x8 : Shape := ⟨3, ![1, 9, 8]⟩
abbrev S9x8 : Shape := ⟨2, ![9, 8]⟩
abbrev S8x1x2048x2048 : Shape := ⟨4, ![8, 1, 2048, 2048]⟩
abbrev S1x8x2048x2048 : Shape := ⟨4, ![1, 8, 2048, 2048]⟩
abbrev S1x8x2048 : Shape := ⟨3, ![1, 8, 2048]⟩
abbrev S1x8x2048x1 : Shape := ⟨4, ![1, 8, 2048, 1]⟩
abbrev S1x8x16x2048 : Shape := ⟨4, ![1, 8, 16, 2048]⟩
abbrev S1x128x256 : Shape := ⟨3, ![1, 128, 256]⟩
abbrev S128x256 : Shape := ⟨2, ![128, 256]⟩
abbrev S1x2048x256 : Shape := ⟨3, ![1, 2048, 256]⟩
abbrev S1x256x128 : Shape := ⟨3, ![1, 256, 128]⟩
abbrev S256x128 : Shape := ⟨2, ![256, 128]⟩

abbrev nBuf : Space → Nat
  | .hbm => 388
  | .vmem => 0
  | .smem => 0
  | _ => 0

abbrev hbmTy0_0 (i : Nat) : BufTy := match i % 128 with
  | 0 => ⟨S2048x59, .f32⟩
  | 1 => ⟨S2x65536, .i32⟩
  | 2 => ⟨S65536x3, .f32⟩
  | 3 => ⟨S21x128, .f32⟩
  | 4 => ⟨S42x128, .f32⟩
  | 5 => ⟨S128, .f32⟩
  | 6 => ⟨S2x128x128, .f32⟩
  | 7 => ⟨S2x128x128, .f32⟩
  | 8 => ⟨S2x128x128, .f32⟩
  | 9 => ⟨S2x128x128, .f32⟩
  | 10 => ⟨S2x9x8, .f32⟩
  | 11 => ⟨S2x128x256, .f32⟩
  | 12 => ⟨S2x256x128, .f32⟩
  | 13 => ⟨S2048x42, .f32⟩
  | 14 => ⟨S1x2048x14x3, .f32⟩
  | 15 => ⟨S2048x1, .f32⟩
  | 16 => ⟨S2048, .f32⟩
  | 17 => ⟨S1x2048, .f32⟩
  | 18 => ⟨S1x2048, .i32⟩
  | 19 => ⟨S_, .i32⟩
  | 20 => ⟨S_, .i32⟩
  | 21 => ⟨S_, .i32⟩
  | 22 => ⟨S1x2048, .i32⟩
  | 23 => ⟨S1x2048, .i32⟩
  | 24 => ⟨S_, .i32⟩
  | 25 => ⟨S1x2048, .i32⟩
  | 26 => ⟨S1x2048, .i32⟩
  | 27 => ⟨S2048x1, .f32⟩
  | 28 => ⟨S2048, .f32⟩
  | 29 => ⟨S1x2048, .f32⟩
  | 30 => ⟨S1x2048, .i32⟩
  | 31 => ⟨S2048x14, .f32⟩
  | 32 => ⟨S1x2048x14, .f32⟩
  | 33 => ⟨S_, .f32⟩
  | 34 => ⟨S1x2048x14, .f32⟩
  | 35 => ⟨S1x2048x14, .i1⟩
  | 36 => ⟨S1x2048x14, .f32⟩
  | 37 => ⟨S1x2048x1x3, .f32⟩
  | 38 => ⟨S1x2048x3, .f32⟩
  | 39 => ⟨S1x2048x1x3, .f32⟩
  | 40 => ⟨S1x2048x14x3, .f32⟩
  | 41 => ⟨S1x2048x14x3, .f32⟩
  | 42 => ⟨S1x2048x14x1, .f32⟩
  | 43 => ⟨S1x2048x14x3, .f32⟩
  | 44 => ⟨S1x2048x14x3, .f32⟩
  | 45 => ⟨S_, .i32⟩
  | 46 => ⟨S1x2048, .i32⟩
  | 47 => ⟨S1x2048, .i1⟩
  | 48 => ⟨S_, .i32⟩
  | 49 => ⟨S1x2048, .i32⟩
  | 50 => ⟨S1x2048, .i32⟩
  | 51 => ⟨S1x2048, .i32⟩
  | 52 => ⟨S1x2048x1, .i32⟩
  | 53 => ⟨S1, .i32⟩
  | 54 => ⟨S_, .i32⟩
  | 55 => ⟨S1x2048x1, .i32⟩
  | 56 => ⟨S1x2048x1, .i1⟩
  | 57 => ⟨S1x1x1, .i32⟩
  | 58 => ⟨S1x2048x1, .i32⟩
  | 59 => ⟨S1x2048x1, .i1⟩
  | 60 => ⟨S1x2048x1, .i1⟩
  | 61 => ⟨S_, .i1⟩
  | 62 => ⟨S1x2048, .i1⟩
  | 63 => ⟨S1x2048x128, .f32⟩
  | 64 => ⟨S1x2048x128, .i1⟩
  | 65 => ⟨S_, .f32⟩
  | 66 => ⟨S1x2048x128, .f32⟩
  | 67 => ⟨S1x2048x128, .f32⟩
  | 68 => ⟨S1x2048x42, .f32⟩
  | 69 => ⟨S1x2048x128, .f32⟩
  | 70 => ⟨S1x2048x128, .f32⟩
  | 71 => ⟨S1x1x128, .f32⟩
  | 72 => ⟨S1x2048x128, .f32⟩
  | 73 => ⟨S1x2048x128, .f32⟩
  | 74 => ⟨S1x2048x1x3, .f32⟩
  | 75 => ⟨S1x1x2048x3, .f32⟩
  | 76 => ⟨S1x2048x2048x3, .f32⟩
  | 77 => ⟨S1x2048x2048x3, .f32⟩
  | 78 => ⟨S1x2048x2048x3, .f32⟩
  | 79 => ⟨S1x2048x2048x3, .f32⟩
  | 80 => ⟨S_, .f32⟩
  | 81 => ⟨S1x2048x2048, .f32⟩
  | 82 => ⟨S_, .f32⟩
  | 83 => ⟨S1x2048x2048, .f32⟩
  | 84 => ⟨S1x2048x2048, .f32⟩
  | 85 => ⟨S1x2048x2048, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S7, .f32⟩
  | 94 => ⟨S_, .f32⟩
  | 95 => ⟨S7, .f32⟩
  | 96 => ⟨S7, .f32⟩
  | 97 => ⟨S1, .f32⟩
  | 98 => ⟨S_, .f32⟩
  | 99 => ⟨S7, .f32⟩
  | 100 => ⟨S7, .f32⟩
  | 101 => ⟨S7, .f32⟩
  | 102 => ⟨S7, .f32⟩
  | 103 => ⟨S1, .f32⟩
  | 104 => ⟨S7, .f32⟩
  | 105 => ⟨S7, .f32⟩
  | 106 => ⟨S7, .f32⟩
  | 107 => ⟨S1, .f32⟩
  | 108 => ⟨S8, .f32⟩
  | 109 => ⟨S1x2048x2048x1, .f32⟩
  | 110 => ⟨S1x1x1x8, .f32⟩
  | 111 => ⟨S1x2048x2048x8, .f32⟩
  | 112 => ⟨S1x2048x2048x8, .f32⟩
  | 113 => ⟨S1x2048x2048x8, .f32⟩
  | 114 => ⟨S1x2048x2048x8, .f32⟩
  | 115 => ⟨S1x2048x2048x8, .f32⟩
  | 116 => ⟨S_, .f32⟩
  | 117 => ⟨S1x2048x2048x8, .f32⟩
  | 118 => ⟨S1x2048x2048x8, .f32⟩
  | 119 => ⟨S1x2048x2048x8, .f32⟩
  | 120 => ⟨S1x2048x1, .i32⟩
  | 121 => ⟨S1x1x2048, .i32⟩
  | 122 => ⟨S1x2048x2048, .i32⟩
  | 123 => ⟨S1x2048x2048, .i32⟩
  | 124 => ⟨S1x2048x2048, .i1⟩
  | 125 => ⟨S1x2048x2048, .f32⟩
  | 126 => ⟨S1x2048x2048x1, .f32⟩
  | 127 => ⟨S1x2048x2048x9, .f32⟩
  | _ => ⟨S2048x59, .f32⟩

abbrev hbmTy0_1 (i : Nat) : BufTy := match i % 128 with
  | 0 => ⟨S_, .f32⟩
  | 1 => ⟨S1x2048, .f32⟩
  | 2 => ⟨S1x2048x1, .f32⟩
  | 3 => ⟨S_, .f32⟩
  | 4 => ⟨S1x2048x1, .f32⟩
  | 5 => ⟨S1x2048x1, .f32⟩
  | 6 => ⟨S_, .i32⟩
  | 7 => ⟨S_, .f32⟩
  | 8 => ⟨S1x2048, .f32⟩
  | 9 => ⟨S1x2048x1, .f32⟩
  | 10 => ⟨S_, .f32⟩
  | 11 => ⟨S1x2048x1, .f32⟩
  | 12 => ⟨S1x2048x1, .f32⟩
  | 13 => ⟨S1x2048x128, .f32⟩
  | 14 => ⟨S1x2048x128, .f32⟩
  | 15 => ⟨S1x2048x128, .f32⟩
  | 16 => ⟨S_, .f32⟩
  | 17 => ⟨S_, .f32⟩
  | 18 => ⟨S_, .f32⟩
  | 19 => ⟨S_, .f32⟩
  | 20 => ⟨S1x2048, .f32⟩
  | 21 => ⟨S1x2048x1, .f32⟩
  | 22 => ⟨S1x2048x1, .f32⟩
  | 23 => ⟨S1x2048x1, .f32⟩
  | 24 => ⟨S_, .f32⟩
  | 25 => ⟨S_, .i1⟩
  | 26 => ⟨S_, .f32⟩
  | 27 => ⟨S_, .f32⟩
  | 28 => ⟨S1x2048x1, .f32⟩
  | 29 => ⟨S1x2048x1, .f32⟩
  | 30 => ⟨S1x2048x128, .f32⟩
  | 31 => ⟨S1x2048x128, .f32⟩
  | 32 => ⟨S_, .f32⟩
  | 33 => ⟨S1x2048x1, .f32⟩
  | 34 => ⟨S1x2048x1, .f32⟩
  | 35 => ⟨S1x2048x1, .f32⟩
  | 36 => ⟨S1x2048x128, .f32⟩
  | 37 => ⟨S1x2048x128, .f32⟩
  | 38 => ⟨S1x128x128, .f32⟩
  | 39 => ⟨S128x128, .f32⟩
  | 40 => ⟨S1x2048x128, .f32⟩
  | 41 => ⟨S1x2048x8x16, .f32⟩
  | 42 => ⟨S1x128x128, .f32⟩
  | 43 => ⟨S128x128, .f32⟩
  | 44 => ⟨S1x2048x128, .f32⟩
  | 45 => ⟨S1x2048x8x16, .f32⟩
  | 46 => ⟨S1x128x128, .f32⟩
  | 47 => ⟨S128x128, .f32⟩
  | 48 => ⟨S1x2048x128, .f32⟩
  | 49 => ⟨S1x2048x8x16, .f32⟩
  | 50 => ⟨S1x9x8, .f32⟩
  | 51 => ⟨S9x8, .f32⟩
  | 52 => ⟨S8x1x2048x2048, .f32⟩
  | 53 => ⟨S1x8x2048x2048, .f32⟩
  | 54 => ⟨S1x8x2048x2048, .f32⟩
  | 55 => ⟨S_, .f32⟩
  | 56 => ⟨S_, .f32⟩
  | 57 => ⟨S_, .f32⟩
  | 58 => ⟨S1x8x2048x2048, .f32⟩
  | 59 => ⟨S1x8x2048x2048, .f32⟩
  | 60 => ⟨S1x8x2048x2048, .f32⟩
  | 61 => ⟨S_, .f32⟩
  | 62 => ⟨S1x8x2048, .f32⟩
  | 63 => ⟨S_, .f32⟩
  | 64 => ⟨S1x8x2048, .f32⟩
  | 65 => ⟨S1x8x2048, .f32⟩
  | 66 => ⟨S1x8x2048x1, .f32⟩
  | 67 => ⟨S1x8x2048x2048, .f32⟩
  | 68 => ⟨S1x8x2048x2048, .f32⟩
  | 69 => ⟨S1x8x2048x2048, .f32⟩
  | 70 => ⟨S_, .f32⟩
  | 71 => ⟨S1x8x2048, .f32⟩
  | 72 => ⟨S1x8x2048x1, .f32⟩
  | 73 => ⟨S1x8x2048x2048, .f32⟩
  | 74 => ⟨S1x8x2048x2048, .f32⟩
  | 75 => ⟨S1x8x16x2048, .f32⟩
  | 76 => ⟨S1x2048x8x16, .f32⟩
  | 77 => ⟨S1x2048x128, .f32⟩
  | 78 => ⟨S1x128x128, .f32⟩
  | 79 => ⟨S128x128, .f32⟩
  | 80 => ⟨S1x2048x128, .f32⟩
  | 81 => ⟨S1x2048x128, .f32⟩
  | 82 => ⟨S_, .f32⟩
  | 83 => ⟨S1x2048, .f32⟩
  | 84 => ⟨S1x2048x1, .f32⟩
  | 85 => ⟨S_, .f32⟩
  | 86 => ⟨S1x2048x1, .f32⟩
  | 87 => ⟨S1x2048x1, .f32⟩
  | 88 => ⟨S_, .i32⟩
  | 89 => ⟨S_, .f32⟩
  | 90 => ⟨S1x2048, .f32⟩
  | 91 => ⟨S1x2048x1, .f32⟩
  | 92 => ⟨S_, .f32⟩
  | 93 => ⟨S1x2048x1, .f32⟩
  | 94 => ⟨S1x2048x1, .f32⟩
  | 95 => ⟨S1x2048x128, .f32⟩
  | 96 => ⟨S1x2048x128, .f32⟩
  | 97 => ⟨S1x2048x128, .f32⟩
  | 98 => ⟨S_, .f32⟩
  | 99 => ⟨S_, .f32⟩
  | 100 => ⟨S_, .f32⟩
  | 101 => ⟨S_, .f32⟩
  | 102 => ⟨S1x2048, .f32⟩
  | 103 => ⟨S1x2048x1, .f32⟩
  | 104 => ⟨S1x2048x1, .f32⟩
  | 105 => ⟨S1x2048x1, .f32⟩
  | 106 => ⟨S_, .f32⟩
  | 107 => ⟨S_, .i1⟩
  | 108 => ⟨S_, .f32⟩
  | 109 => ⟨S_, .f32⟩
  | 110 => ⟨S1x2048x1, .f32⟩
  | 111 => ⟨S1x2048x1, .f32⟩
  | 112 => ⟨S1x2048x128, .f32⟩
  | 113 => ⟨S1x2048x128, .f32⟩
  | 114 => ⟨S_, .f32⟩
  | 115 => ⟨S1x2048x1, .f32⟩
  | 116 => ⟨S1x2048x1, .f32⟩
  | 117 => ⟨S1x2048x1, .f32⟩
  | 118 => ⟨S1x2048x128, .f32⟩
  | 119 => ⟨S1x2048x128, .f32⟩
  | 120 => ⟨S1x128x256, .f32⟩
  | 121 => ⟨S128x256, .f32⟩
  | 122 => ⟨S1x2048x256, .f32⟩
  | 123 => ⟨S_, .f32⟩
  | 124 => ⟨S1x2048x256, .f32⟩
  | 125 => ⟨S1x2048x256, .f32⟩
  | 126 => ⟨S1x256x128, .f32⟩
  | 127 => ⟨S256x128, .f32⟩
  | _ => ⟨S2048x59, .f32⟩

abbrev hbmTy0_2 (i : Nat) : BufTy := match i % 128 with
  | 0 => ⟨S1x2048x128, .f32⟩
  | 1 => ⟨S1x2048x128, .f32⟩
  | 2 => ⟨S_, .f32⟩
  | 3 => ⟨S1x2048, .f32⟩
  | 4 => ⟨S1x2048x1, .f32⟩
  | 5 => ⟨S_, .f32⟩
  | 6 => ⟨S1x2048x1, .f32⟩
  | 7 => ⟨S1x2048x1, .f32⟩
  | 8 => ⟨S_, .i32⟩
  | 9 => ⟨S_, .f32⟩
  | 10 => ⟨S1x2048, .f32⟩
  | 11 => ⟨S1x2048x1, .f32⟩
  | 12 => ⟨S_, .f32⟩
  | 13 => ⟨S1x2048x1, .f32⟩
  | 14 => ⟨S1x2048x1, .f32⟩
  | 15 => ⟨S1x2048x128, .f32⟩
  | 16 => ⟨S1x2048x128, .f32⟩
  | 17 => ⟨S1x2048x128, .f32⟩
  | 18 => ⟨S_, .f32⟩
  | 19 => ⟨S_, .f32⟩
  | 20 => ⟨S_, .f32⟩
  | 21 => ⟨S_, .f32⟩
  | 22 => ⟨S1x2048, .f32⟩
  | 23 => ⟨S1x2048x1, .f32⟩
  | 24 => ⟨S1x2048x1, .f32⟩
  | 25 => ⟨S1x2048x1, .f32⟩
  | 26 => ⟨S_, .f32⟩
  | 27 => ⟨S_, .i1⟩
  | 28 => ⟨S_, .f32⟩
  | 29 => ⟨S_, .f32⟩
  | 30 => ⟨S1x2048x1, .f32⟩
  | 31 => ⟨S1x2048x1, .f32⟩
  | 32 => ⟨S1x2048x128, .f32⟩
  | 33 => ⟨S1x2048x128, .f32⟩
  | 34 => ⟨S_, .f32⟩
  | 35 => ⟨S1x2048x1, .f32⟩
  | 36 => ⟨S1x2048x1, .f32⟩
  | 37 => ⟨S1x2048x1, .f32⟩
  | 38 => ⟨S1x2048x128, .f32⟩
  | 39 => ⟨S1x2048x128, .f32⟩
  | 40 => ⟨S1x128x128, .f32⟩
  | 41 => ⟨S128x128, .f32⟩
  | 42 => ⟨S1x2048x128, .f32⟩
  | 43 => ⟨S1x2048x8x16, .f32⟩
  | 44 => ⟨S1x128x128, .f32⟩
  | 45 => ⟨S128x128, .f32⟩
  | 46 => ⟨S1x2048x128, .f32⟩
  | 47 => ⟨S1x2048x8x16, .f32⟩
  | 48 => ⟨S1x128x128, .f32⟩
  | 49 => ⟨S128x128, .f32⟩
  | 50 => ⟨S1x2048x128, .f32⟩
  | 51 => ⟨S1x2048x8x16, .f32⟩
  | 52 => ⟨S1x9x8, .f32⟩
  | 53 => ⟨S9x8, .f32⟩
  | 54 => ⟨S8x1x2048x2048, .f32⟩
  | 55 => ⟨S1x8x2048x2048, .f32⟩
  | 56 => ⟨S1x8x2048x2048, .f32⟩
  | 57 => ⟨S_, .f32⟩
  | 58 => ⟨S_, .f32⟩
  | 59 => ⟨S_, .f32⟩
  | 60 => ⟨S1x8x2048x2048, .f32⟩
  | 61 => ⟨S1x8x2048x2048, .f32⟩
  | 62 => ⟨S1x8x2048x2048, .f32⟩
  | 63 => ⟨S_, .f32⟩
  | 64 => ⟨S1x8x2048, .f32⟩
  | 65 => ⟨S_, .f32⟩
  | 66 => ⟨S1x8x2048, .f32⟩
  | 67 => ⟨S1x8x2048, .f32⟩
  | 68 => ⟨S1x8x2048x1, .f32⟩
  | 69 => ⟨S1x8x2048x2048, .f32⟩
  | 70 => ⟨S1x8x2048x2048, .f32⟩
  | 71 => ⟨S1x8x2048x2048, .f32⟩
  | 72 => ⟨S_, .f32⟩
  | 73 => ⟨S1x8x2048, .f32⟩
  | 74 => ⟨S1x8x2048x1, .f32⟩
  | 75 => ⟨S1x8x2048x2048, .f32⟩
  | 76 => ⟨S1x8x2048x2048, .f32⟩
  | 77 => ⟨S1x8x16x2048, .f32⟩
  | 78 => ⟨S1x2048x8x16, .f32⟩
  | 79 => ⟨S1x2048x128, .f32⟩
  | 80 => ⟨S1x128x128, .f32⟩
  | 81 => ⟨S128x128, .f32⟩
  | 82 => ⟨S1x2048x128, .f32⟩
  | 83 => ⟨S1x2048x128, .f32⟩
  | 84 => ⟨S_, .f32⟩
  | 85 => ⟨S1x2048, .f32⟩
  | 86 => ⟨S1x2048x1, .f32⟩
  | 87 => ⟨S_, .f32⟩
  | 88 => ⟨S1x2048x1, .f32⟩
  | 89 => ⟨S1x2048x1, .f32⟩
  | 90 => ⟨S_, .i32⟩
  | 91 => ⟨S_, .f32⟩
  | 92 => ⟨S1x2048, .f32⟩
  | 93 => ⟨S1x2048x1, .f32⟩
  | 94 => ⟨S_, .f32⟩
  | 95 => ⟨S1x2048x1, .f32⟩
  | 96 => ⟨S1x2048x1, .f32⟩
  | 97 => ⟨S1x2048x128, .f32⟩
  | 98 => ⟨S1x2048x128, .f32⟩
  | 99 => ⟨S1x2048x128, .f32⟩
  | 100 => ⟨S_, .f32⟩
  | 101 => ⟨S_, .f32⟩
  | 102 => ⟨S_, .f32⟩
  | 103 => ⟨S_, .f32⟩
  | 104 => ⟨S1x2048, .f32⟩
  | 105 => ⟨S1x2048x1, .f32⟩
  | 106 => ⟨S1x2048x1, .f32⟩
  | 107 => ⟨S1x2048x1, .f32⟩
  | 108 => ⟨S_, .f32⟩
  | 109 => ⟨S_, .i1⟩
  | 110 => ⟨S_, .f32⟩
  | 111 => ⟨S_, .f32⟩
  | 112 => ⟨S1x2048x1, .f32⟩
  | 113 => ⟨S1x2048x1, .f32⟩
  | 114 => ⟨S1x2048x128, .f32⟩
  | 115 => ⟨S1x2048x128, .f32⟩
  | 116 => ⟨S_, .f32⟩
  | 117 => ⟨S1x2048x1, .f32⟩
  | 118 => ⟨S1x2048x1, .f32⟩
  | 119 => ⟨S1x2048x1, .f32⟩
  | 120 => ⟨S1x2048x128, .f32⟩
  | 121 => ⟨S1x2048x128, .f32⟩
  | 122 => ⟨S1x128x256, .f32⟩
  | 123 => ⟨S128x256, .f32⟩
  | 124 => ⟨S1x2048x256, .f32⟩
  | 125 => ⟨S_, .f32⟩
  | 126 => ⟨S1x2048x256, .f32⟩
  | 127 => ⟨S1x2048x256, .f32⟩
  | _ => ⟨S2048x59, .f32⟩

abbrev hbmTy0_3 (i : Nat) : BufTy := match i % 128 with
  | 0 => ⟨S1x256x128, .f32⟩
  | 1 => ⟨S256x128, .f32⟩
  | 2 => ⟨S1x2048x128, .f32⟩
  | 3 => ⟨S1x2048x128, .f32⟩
  | _ => ⟨S2048x59, .f32⟩

abbrev hbmTy (i : Nat) : BufTy := match i / 128 with
  | 0 => hbmTy0_0 i
  | 1 => hbmTy0_1 i
  | 2 => hbmTy0_2 i
  | 3 => hbmTy0_3 i
  | _ => ⟨S2048x59, .f32⟩

abbrev bufTy : (tb : Table) → Fin (tcTables nBuf tb) → BufTy
  | .hbm, ⟨i, _⟩ => hbmTy i
  | _, _ => ⟨S2048x59, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_1 : Ref sig .tc := ⟨.hbm, 80, rfl⟩
abbrev main_v37 : Ref sig .tc := ⟨.hbm, 81, rfl⟩
abbrev main_cst_2 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_3 : Ref sig .tc := ⟨.hbm, 86, rfl⟩
abbrev main_cst_4 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_cst : Ref sig .tc := ⟨.hbm, 91, rfl⟩
abbrev main_call2_v3 : Ref sig .tc := ⟨.hbm, 92, rfl⟩
abbrev main_call2_v4 : Ref sig .tc := ⟨.hbm, 93, rfl⟩
abbrev main_call2_cst_0 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_v15 : Ref sig .tc := ⟨.hbm, 106, rfl⟩
abbrev main_call2_v16 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_5 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_cst_6 : Ref sig .tc := ⟨.hbm, 128, rfl⟩
abbrev main_v60 : Ref sig .tc := ⟨.hbm, 129, rfl⟩
abbrev main_v61 : Ref sig .tc := ⟨.hbm, 130, rfl⟩
abbrev main_cst_7 : Ref sig .tc := ⟨.hbm, 131, rfl⟩
abbrev main_v62 : Ref sig .tc := ⟨.hbm, 132, rfl⟩
abbrev main_v63 : Ref sig .tc := ⟨.hbm, 133, rfl⟩
abbrev main_c_8 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_v12 : Ref sig .tc := ⟨.hbm, 151, rfl⟩
abbrev main_call3_cst_3 : Ref sig .tc := ⟨.hbm, 152, rfl⟩
abbrev main_call3_v13 : Ref sig .tc := ⟨.hbm, 153, rfl⟩
abbrev main_call3_cst_4 : Ref sig .tc := ⟨.hbm, 154, rfl⟩
abbrev main_call3_call0_v0 : Ref sig .tc := ⟨.hbm, 155, rfl⟩
abbrev main_call3_call0_v1 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_cst_9 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_cst_10 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_11 : Ref sig .tc := ⟨.hbm, 189, rfl⟩
abbrev main_v94 : Ref sig .tc := ⟨.hbm, 190, rfl⟩
abbrev main_cst_12 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_cst_13 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_14 : Ref sig .tc := ⟨.hbm, 210, rfl⟩
abbrev main_v112 : Ref sig .tc := ⟨.hbm, 211, rfl⟩
abbrev main_v113 : Ref sig .tc := ⟨.hbm, 212, rfl⟩
abbrev main_cst_15 : Ref sig .tc := ⟨.hbm, 213, rfl⟩
abbrev main_v114 : Ref sig .tc := ⟨.hbm, 214, rfl⟩
abbrev main_v115 : Ref sig .tc := ⟨.hbm, 215, rfl⟩
abbrev main_c_16 : Ref sig .tc := ⟨.hbm, 216, rfl⟩
abbrev main_call4_cst : Ref sig .tc := ⟨.hbm, 217, rfl⟩
abbrev main_call4_v0 : Ref sig .tc := ⟨.hbm, 218, rfl⟩
abbrev main_call4_v1 : Ref sig .tc := ⟨.hbm, 219, rfl⟩
abbrev main_call4_cst_0 : Ref sig .tc := ⟨.hbm, 220, rfl⟩
abbrev main_call4_v2 : Ref sig .tc := ⟨.hbm, 221, rfl⟩
abbrev main_call4_v3 : Ref sig .tc := ⟨.hbm, 222, rfl⟩
abbrev main_call4_v4 : Ref sig .tc := ⟨.hbm, 223, rfl⟩
abbrev main_call4_v5 : Ref sig .tc := ⟨.hbm, 224, rfl⟩
abbrev main_call4_v6 : Ref sig .tc := ⟨.hbm, 225, rfl⟩
abbrev main_call4_v7 : Ref sig .tc := ⟨.hbm, 226, rfl⟩
abbrev main_call4_cst_1 : Ref sig .tc := ⟨.hbm, 227, rfl⟩
abbrev main_call4_v8 : Ref sig .tc := ⟨.hbm, 228, rfl⟩
abbrev main_call4_cst_2 : Ref sig .tc := ⟨.hbm, 229, rfl⟩
abbrev main_call4_v9 : Ref sig .tc := ⟨.hbm, 230, rfl⟩
abbrev main_call4_v10 : Ref sig .tc := ⟨.hbm, 231, rfl⟩
abbrev main_call4_v11 : Ref sig .tc := ⟨.hbm, 232, rfl⟩
abbrev main_call4_v12 : Ref sig .tc := ⟨.hbm, 233, rfl⟩
abbrev main_call4_cst_3 : Ref sig .tc := ⟨.hbm, 234, rfl⟩
abbrev main_call4_v13 : Ref sig .tc := ⟨.hbm, 235, rfl⟩
abbrev main_call4_cst_4 : Ref sig .tc := ⟨.hbm, 236, rfl⟩
abbrev main_call4_call0_v0 : Ref sig .tc := ⟨.hbm, 237, rfl⟩
abbrev main_call4_call0_v1 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_cst_17 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_call5_cst : Ref sig .tc := ⟨.hbm, 251, rfl⟩
abbrev main_call5_v0 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_cst_18 : Ref sig .tc := ⟨.hbm, 258, rfl⟩
abbrev main_v132 : Ref sig .tc := ⟨.hbm, 259, rfl⟩
abbrev main_v133 : Ref sig .tc := ⟨.hbm, 260, rfl⟩
abbrev main_cst_19 : Ref sig .tc := ⟨.hbm, 261, rfl⟩
abbrev main_v134 : Ref sig .tc := ⟨.hbm, 262, rfl⟩
abbrev main_v135 : Ref sig .tc := ⟨.hbm, 263, rfl⟩
abbrev main_c_20 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_cst_0 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_cst_1 : Ref sig .tc := ⟨.hbm, 275, rfl⟩
abbrev main_call6_v8 : Ref sig .tc := ⟨.hbm, 276, rfl⟩
abbrev main_call6_cst_2 : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_v12 : Ref sig .tc := ⟨.hbm, 281, rfl⟩
abbrev main_call6_cst_3 : Ref sig .tc := ⟨.hbm, 282, rfl⟩
abbrev main_call6_v13 : Ref sig .tc := ⟨.hbm, 283, rfl⟩
abbrev main_call6_cst_4 : Ref sig .tc := ⟨.hbm, 284, rfl⟩
abbrev main_call6_call0_v0 : Ref sig .tc := ⟨.hbm, 285, rfl⟩
abbrev main_call6_call0_v1 : Ref sig .tc := ⟨.hbm, 286, rfl⟩
abbrev main_v136 : Ref sig .tc := ⟨.hbm, 287, rfl⟩
abbrev main_v137 : Ref sig .tc := ⟨.hbm, 288, rfl⟩
abbrev main_v138 : Ref sig .tc := ⟨.hbm, 289, rfl⟩
abbrev main_cst_21 : Ref sig .tc := ⟨.hbm, 290, rfl⟩
abbrev main_v139 : Ref sig .tc := ⟨.hbm, 291, rfl⟩
abbrev main_v140 : Ref sig .tc := ⟨.hbm, 292, rfl⟩
abbrev main_v141 : Ref sig .tc := ⟨.hbm, 293, rfl⟩
abbrev main_v142 : Ref sig .tc := ⟨.hbm, 294, rfl⟩
abbrev main_v143 : Ref sig .tc := ⟨.hbm, 295, rfl⟩
abbrev main_v144 : Ref sig .tc := ⟨.hbm, 296, rfl⟩
abbrev main_v145 : Ref sig .tc := ⟨.hbm, 297, rfl⟩
abbrev main_v146 : Ref sig .tc := ⟨.hbm, 298, rfl⟩
abbrev main_v147 : Ref sig .tc := ⟨.hbm, 299, rfl⟩
abbrev main_v148 : Ref sig .tc := ⟨.hbm, 300, rfl⟩
abbrev main_v149 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_v154 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_v159 : Ref sig .tc := ⟨.hbm, 311, rfl⟩
abbrev main_v160 : Ref sig .tc := ⟨.hbm, 312, rfl⟩
abbrev main_cst_22 : Ref sig .tc := ⟨.hbm, 313, rfl⟩
abbrev main_v161 : Ref sig .tc := ⟨.hbm, 314, rfl⟩
abbrev main_v162 : Ref sig .tc := ⟨.hbm, 315, rfl⟩
abbrev main_v163 : Ref sig .tc := ⟨.hbm, 316, rfl⟩
abbrev main_v164 : Ref sig .tc := ⟨.hbm, 317, rfl⟩
abbrev main_v165 : Ref sig .tc := ⟨.hbm, 318, rfl⟩
abbrev main_cst_23 : Ref sig .tc := ⟨.hbm, 319, rfl⟩
abbrev main_v166 : Ref sig .tc := ⟨.hbm, 320, rfl⟩
abbrev main_cst_24 : Ref sig .tc := ⟨.hbm, 321, rfl⟩
abbrev main_v167 : Ref sig .tc := ⟨.hbm, 322, rfl⟩
abbrev main_v168 : Ref sig .tc := ⟨.hbm, 323, rfl⟩
abbrev main_v169 : Ref sig .tc := ⟨.hbm, 324, rfl⟩
abbrev main_v170 : Ref sig .tc := ⟨.hbm, 325, rfl⟩
abbrev main_v171 : Ref sig .tc := ⟨.hbm, 326, rfl⟩
abbrev main_v172 : Ref sig .tc := ⟨.hbm, 327, rfl⟩
abbrev main_cst_25 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_cst_26 : Ref sig .tc := ⟨.hbm, 340, rfl⟩
abbrev main_v184 : Ref sig .tc := ⟨.hbm, 341, rfl⟩
abbrev main_v185 : Ref sig .tc := ⟨.hbm, 342, rfl⟩
abbrev main_cst_27 : Ref sig .tc := ⟨.hbm, 343, rfl⟩
abbrev main_v186 : Ref sig .tc := ⟨.hbm, 344, rfl⟩
abbrev main_v187 : Ref sig .tc := ⟨.hbm, 345, rfl⟩
abbrev main_c_28 : Ref sig .tc := ⟨.hbm, 346, rfl⟩
abbrev main_call7_cst : Ref sig .tc := ⟨.hbm, 347, rfl⟩
abbrev main_call7_v0 : Ref sig .tc := ⟨.hbm, 348, rfl⟩
abbrev main_call7_v1 : Ref sig .tc := ⟨.hbm, 349, rfl⟩
abbrev main_call7_cst_0 : Ref sig .tc := ⟨.hbm, 350, rfl⟩
abbrev main_call7_v2 : Ref sig .tc := ⟨.hbm, 351, rfl⟩
abbrev main_call7_v3 : Ref sig .tc := ⟨.hbm, 352, rfl⟩
abbrev main_call7_v4 : Ref sig .tc := ⟨.hbm, 353, rfl⟩
abbrev main_call7_v5 : Ref sig .tc := ⟨.hbm, 354, rfl⟩
abbrev main_call7_v6 : Ref sig .tc := ⟨.hbm, 355, rfl⟩
abbrev main_call7_v7 : Ref sig .tc := ⟨.hbm, 356, rfl⟩
abbrev main_call7_cst_1 : Ref sig .tc := ⟨.hbm, 357, rfl⟩
abbrev main_call7_v8 : Ref sig .tc := ⟨.hbm, 358, rfl⟩
abbrev main_call7_cst_2 : Ref sig .tc := ⟨.hbm, 359, rfl⟩
abbrev main_call7_v9 : Ref sig .tc := ⟨.hbm, 360, rfl⟩
abbrev main_call7_v10 : Ref sig .tc := ⟨.hbm, 361, rfl⟩
abbrev main_call7_v11 : Ref sig .tc := ⟨.hbm, 362, rfl⟩
abbrev main_call7_v12 : Ref sig .tc := ⟨.hbm, 363, rfl⟩
abbrev main_call7_cst_3 : Ref sig .tc := ⟨.hbm, 364, rfl⟩
abbrev main_call7_v13 : Ref sig .tc := ⟨.hbm, 365, rfl⟩
abbrev main_call7_cst_4 : Ref sig .tc := ⟨.hbm, 366, rfl⟩
abbrev main_call7_call0_v0 : Ref sig .tc := ⟨.hbm, 367, rfl⟩
abbrev main_call7_call0_v1 : Ref sig .tc := ⟨.hbm, 368, rfl⟩
abbrev main_v188 : Ref sig .tc := ⟨.hbm, 369, rfl⟩
abbrev main_v189 : Ref sig .tc := ⟨.hbm, 370, rfl⟩
abbrev main_v190 : Ref sig .tc := ⟨.hbm, 371, rfl⟩
abbrev main_cst_29 : Ref sig .tc := ⟨.hbm, 372, rfl⟩
abbrev main_v191 : Ref sig .tc := ⟨.hbm, 373, rfl⟩
abbrev main_v192 : Ref sig .tc := ⟨.hbm, 374, rfl⟩
abbrev main_v193 : Ref sig .tc := ⟨.hbm, 375, rfl⟩
abbrev main_v194 : Ref sig .tc := ⟨.hbm, 376, rfl⟩
abbrev main_v195 : Ref sig .tc := ⟨.hbm, 377, rfl⟩
abbrev main_v196 : Ref sig .tc := ⟨.hbm, 378, rfl⟩
abbrev main_v197 : Ref sig .tc := ⟨.hbm, 379, rfl⟩
abbrev main_v198 : Ref sig .tc := ⟨.hbm, 380, rfl⟩
abbrev main_call8_cst : Ref sig .tc := ⟨.hbm, 381, rfl⟩
abbrev main_call8_v0 : Ref sig .tc := ⟨.hbm, 382, rfl⟩
abbrev main_v199 : Ref sig .tc := ⟨.hbm, 383, rfl⟩
abbrev main_v200 : Ref sig .tc := ⟨.hbm, 384, rfl⟩
abbrev main_v201 : Ref sig .tc := ⟨.hbm, 385, rfl⟩
abbrev main_v202 : Ref sig .tc := ⟨.hbm, 386, rfl⟩
abbrev main_v203 : Ref sig .tc := ⟨.hbm, 387, rfl⟩

abbrev nD : Nat := 1
abbrev τ : Topo := Topo.v7x

variable {F : FTy → Type} [FloatOps F]
-- ==== Proof.Launch.lean ====
/- The kernel's run with its result read: the launch over the segments of @main (the frame's), whose last thread state holds every
   unscoped buffer at the contents `W15`; here the result buffer is read from it beside the arguments. -/
module

public import proofs.«01_k».proof.Proof.Gen.KernelIdeal.Frame

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

/-- The result buffer ends at the last boundary's contents, the arguments as launched. -/
theorem run : θ_run defs (onTc (τ := τ) (main (F := F))) ⟨m, fun _ => 0, ρ⟩ (fun r => ∀ c : Dev nD,
      r.2.mem ((c.tc : Thread nD τ).loc main_v51) = W15 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨h c _ (mem_uc main_v51 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c)⟩) (run_all m ρ)

end Cert.KernelIdeal.Launch

end
-- ==== Proof.Kit.lean ====
/- Real numbers inside the extended reals: an array of reals as an array of ideal floats, and the operations' values on it. -/
module

public import Idealize.ShloMosaic.Lib.Pointwise
public import Idealize.ShloMosaic.Lib.IdealHost
public import Idealize.ShloMosaic.PureOps.Ideal

@[expose] public section

noncomputable section

namespace Cert.Enc

open Idealize.ShloMosaic

/-- A vector of reals as an array of ideal floats. -/
def up1 {a : ℕ} (f : Fin a → ℝ) : FVec Ideal ⟨1, ![a]⟩ .f32 := fun j => ((f (j 0) : ℝ) : EReal)

/-- A matrix of reals as an array of ideal floats. -/
def up2 {a b : ℕ} (f : Fin a → Fin b → ℝ) : FVec Ideal ⟨2, ![a, b]⟩ .f32 := fun j => ((f (j 0) (j 1) : ℝ) : EReal)

/-- A stack of matrices of reals as an array of ideal floats. -/
def up3 {a b c : ℕ} (f : Fin a → Fin b → Fin c → ℝ) : FVec Ideal ⟨3, ![a, b, c]⟩ .f32 :=
  fun j => ((f (j 0) (j 1) (j 2) : ℝ) : EReal)

theorem up1_apply {a : ℕ} (f : Fin a → ℝ) (i : Fin a) : up1 f (ix1 i) = ((f i : ℝ) : EReal) := rfl
theorem up2_apply {a b : ℕ} (f : Fin a → Fin b → ℝ) (i : Fin a) (j : Fin b) : up2 f (ix2 i j) = ((f i j : ℝ) : EReal) := rfl
theorem up3_apply {a b c : ℕ} (f : Fin a → Fin b → Fin c → ℝ) (i : Fin a) (j : Fin b) (k : Fin c) :
    up3 f (ix3 i j k) = ((f i j k : ℝ) : EReal) := rfl

/-- An array is the one of a real matrix as soon as it is at every pair of coordinates. -/
theorem eq_up2 {a b : ℕ} (v : FVec Ideal ⟨2, ![a, b]⟩ .f32) (f : Fin a → Fin b → ℝ)
    (h : ∀ i j, v (ix2 i j) = ((f i j : ℝ) : EReal)) : v = up2 f := by
  funext j; rw [eq_ix2 j]; exact h _ _

theorem eq_up1 {a : ℕ} (v : FVec Ideal ⟨1, ![a]⟩ .f32) (f : Fin a → ℝ)
    (h : ∀ i, v (ix1 i) = ((f i : ℝ) : EReal)) : v = up1 f := by
  funext j; rw [eq_ix1 j]; exact h _

theorem eq_up3 {a b c : ℕ} (v : FVec Ideal ⟨3, ![a, b, c]⟩ .f32) (f : Fin a → Fin b → Fin c → ℝ)
    (h : ∀ i j k, v (ix3 i j k) = ((f i j k : ℝ) : EReal)) : v = up3 f := by
  funext j; rw [eq_ix3 j]; exact h _ _ _

/-- The sum of reals, as an extended real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_coe {a b : ℝ} (h : b ≠ 0) : Ideal.div (a : EReal) (b : EReal) = ((a / b : ℝ) : EReal) := by
  rw [Ideal.div_coe h, ← EReal.coe_mul, mul_one_div]

theorem sqrt_coe {a : ℝ} (h : 0 ≤ a) : Ideal.sqrt (a : EReal) = ((Real.sqrt a : ℝ) : EReal) := by
  rw [Ideal.sqrt_coe, if_neg (not_lt.mpr h)]

/-- The greatest of finitely many reals, from minus infinity up, is a real: one of them. -/
theorem fold_max_coe {n : ℕ} (hn : 0 < n) (f : Fin n → ℝ) :
    ∃ k, (Finset.univ : Finset (Fin n)).fold max (⊥ : EReal) (fun k => ((f k : ℝ) : EReal)) = ((f k : ℝ) : EReal) := by
  have hne : (Finset.univ : Finset (Fin n)).Nonempty := ⟨⟨0, hn⟩, Finset.mem_univ _⟩
  obtain ⟨k, -, hk⟩ := Finset.exists_mem_eq_sup (Finset.univ : Finset (Fin n)) hne (fun k => ((f k : ℝ) : EReal))
  refine ⟨k, ?_⟩
  rw [← hk]; rfl

/-- The exponents' floor is minus infinity: the greater of it and an extended real is that one. -/
theorem bot_max (x : EReal) : max x ⊥ = x := max_eq_left bot_le

end Cert.Enc

end
-- ==== Proof.Consts.lean ====
/- The values of the floating-point constants that the two programs hold, as reals, and of the kernel's named constants. -/
module

public import proofs.«01_k».proof.Proof.Kit
public import proofs.«01_k».proof.KernelIdeal

@[expose] public section

noncomputable section

namespace Cert.Enc

open Idealize.ShloMosaic

/-- The epsilon of a variance: the float nearest 1e-5. -/
def eps : ℝ := 10995116 / 2 ^ 40
/-- The epsilon of a squared distance: the float nearest 1e-8. -/
def del : ℝ := 11258999 / 2 ^ 50

theorem eps_pos : 0 < eps := by unfold eps; positivity
theorem del_pos : 0 < del := by unfold del; positivity

theorem c_eps : Ideal.ofBits .f32 0x3727C5AC#32 = ((eps : ℝ) : EReal) := by
  simp [Ideal.ofBits, Ideal.ieee, -EReal.coe_mul, eps]; norm_num
theorem c_del : Ideal.ofBits .f32 0x322BCC77#32 = ((del : ℝ) : EReal) := by
  simp [Ideal.ofBits, Ideal.ieee, -EReal.coe_mul, del]; norm_num
theorem c_quarter : Ideal.ofBits .f32 0x3E800000#32 = ((1 / 4 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_one : Ideal.ofBits .f32 0x3F800000#32 = ((1 : ℝ) : EReal) := by
  rw [Ideal.ofBits_one_f32]; rfl
theorem c_zero : Ideal.ofBits .f32 0x00000000#32 = ((0 : ℝ) : EReal) := by
  rw [Ideal.ofBits_zero_f32]; rfl
theorem c_two : Ideal.ofBits .f32 0x40000000#32 = ((2 : ℝ) : EReal) := by
  simp [Ideal.ofBits, Ideal.ieee, -EReal.coe_mul]; norm_num
theorem c_seven : Ideal.ofBits .f32 0x40E00000#32 = ((7 : ℝ) : EReal) := by
  simp [Ideal.ofBits, Ideal.ieee, -EReal.coe_mul]; norm_num
theorem c_eight : Ideal.ofBits .f32 0x41000000#32 = ((8 : ℝ) : EReal) := by
  simp [Ideal.ofBits, Ideal.ieee, -EReal.coe_mul]; norm_num
theorem c_sixteen : Ideal.ofBits .f32 0x41800000#32 = ((16 : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num
theorem c_neg_one : Ideal.ofBits .f32 0xBF800000#32 = ((-1 : ℝ) : EReal) := by
  simp [Ideal.ofBits, Ideal.ieee, -EReal.coe_mul]; norm_num
theorem c_neg_two : Ideal.ofBits .f32 0xC0000000#32 = ((-2 : ℝ) : EReal) := by
  simp [Ideal.ofBits, Ideal.ieee, -EReal.coe_mul]; norm_num
theorem c_neg_eight : Ideal.ofBits .f32 0xC1000000#32 = ((-8 : ℝ) : EReal) := by
  simp [Ideal.ofBits, Ideal.ieee, -EReal.coe_mul]; norm_num
theorem c_neg_32 : Ideal.ofBits .f32 0xC2000000#32 = ((-32 : ℝ) : EReal) := by
  simp [Ideal.ofBits, Ideal.ieee, -EReal.coe_mul]; norm_num
theorem c_neg_inf : Ideal.ofBits .f32 0xFF800000#32 = (⊥ : EReal) := by
  simp [Ideal.ofBits, Ideal.ieee, -EReal.coe_mul]
theorem c_inf : Ideal.ofBits .f32 0x7F800000#32 = (⊤ : EReal) := by
  simp [Ideal.ofBits, Ideal.ieee, -EReal.coe_mul]

open Cert.KernelIdeal in
theorem n_decay : (Named.named κ "decay" 0xC1F00000#32 : Ideal .f32) = (⊥ : EReal) := rfl
open Cert.KernelIdeal in
theorem n_floor : (Named.named κ "floor" 0xC2A00000#32 : Ideal .f32) = (⊥ : EReal) := rfl
open Cert.KernelIdeal in
theorem n_ratio : (Named.named κ "ratio" 0x40924925#32 : Ideal .f32) = ((32 / 7 : ℝ) : EReal) := rfl
open Cert.KernelIdeal in
theorem n_c1 : (Named.named κ "centre1" 0xBF272F05#32 : Ideal .f32) = ((-32 / 49 : ℝ) : EReal) := rfl
open Cert.KernelIdeal in
theorem n_c2 : (Named.named κ "centre2" 0xC0272F05#32 : Ideal .f32) = ((-128 / 49 : ℝ) : EReal) := rfl
open Cert.KernelIdeal in
theorem n_c3 : (Named.named κ "centre3" 0xC0BC14E6#32 : Ideal .f32) = ((-288 / 49 : ℝ) : EReal) := rfl
open Cert.KernelIdeal in
theorem n_c4 : (Named.named κ "centre4" 0xC1272F05#32 : Ideal .f32) = ((-512 / 49 : ℝ) : EReal) := rfl
open Cert.KernelIdeal in
theorem n_c5 : (Named.named κ "centre5" 0xC1829CBC#32 : Ideal .f32) = ((-800 / 49 : ℝ) : EReal) := rfl
open Cert.KernelIdeal in
theorem n_c6 : (Named.named κ "centre6" 0xC1BC14E6#32 : Ideal .f32) = ((-1152 / 49 : ℝ) : EReal) := rfl

/-- The scalar exponential of a real. -/
theorem scalar_exp_coe (x : ℝ) : (Scalar.exp (F := Ideal) (φ := .f32) ((x : ℝ) : EReal)) = ((Real.exp x : ℝ) : EReal) := by
  have h : (Scalar.exp (F := Ideal) (φ := .f32) ((x : ℝ) : EReal)) = Ideal.exp ((x : ℝ) : EReal) := rfl
  rw [h, Ideal.exp_coe]

end Cert.Enc

end
-- ==== Proof.Spec.lean ====
/- The encoder on the reals: its layers as functions of real matrices, to which both programs' values are brought. -/
module

public import proofs.«01_k».proof.Proof.Consts

@[expose] public section

noncomputable section

namespace Cert.Enc

open Idealize.ShloMosaic

/-- The mean of a row. -/
def mean (f : Fin 128 → ℝ) : ℝ := (∑ x, f x) / 128

/-- A row, normalised. -/
def lnR (f : Fin 128 → ℝ) (j : Fin 128) : ℝ :=
  (f j - mean f) / Real.sqrt ((∑ x, (f x - mean f) * (f x - mean f)) / 128 + eps)

/-- A matrix with normalised rows. -/
def lnS {n : ℕ} (h : Fin n → Fin 128 → ℝ) (i : Fin n) (j : Fin 128) : ℝ := lnR (h i) j

/-- The product of two matrices. -/
def mm {n p q : ℕ} (h : Fin n → Fin p → ℝ) (w : Fin p → Fin q → ℝ) (i : Fin n) (j : Fin q) : ℝ := ∑ x, h i x * w x j

/-- A residual: the attention's heads projected and added. -/
def resid {n : ℕ} (h o : Fin n → Fin 128 → ℝ) (wo : Fin 128 → Fin 128 → ℝ) (i : Fin n) (j : Fin 128) : ℝ := h i j + mm o wo i j

/-- The feed-forward step. -/
def ffS {n : ℕ} (h : Fin n → Fin 128 → ℝ) (w1 : Fin 128 → Fin 256 → ℝ) (w2 : Fin 256 → Fin 128 → ℝ) (i : Fin n) (j : Fin 128) : ℝ :=
  h i j + ∑ x, max (mm (lnS h) w1 i x) 0 * w2 x j

/-- The exponent of a pair in a head: the scaled product of its queries and keys, and its bias. -/
def logitS (q k : Fin 2048 → Fin 128 → ℝ) (p : Fin 8 → Fin 2048 → Fin 2048 → ℝ) (h : Fin 8) (i j : Fin 2048) : ℝ :=
  (∑ d : Fin 16, q i ⟨16 * h + d, by omega⟩ * k j ⟨16 * h + d, by omega⟩) / 4 + p h i j

/-- The attention: in each head the values averaged with the softmax weights. -/
def attS (q k v : Fin 2048 → Fin 128 → ℝ) (p : Fin 8 → Fin 2048 → Fin 2048 → ℝ) (i : Fin 2048) (c : Fin 128) : ℝ :=
  (∑ j, Real.exp (logitS q k p ⟨c / 16, by omega⟩ i j) * v j c) / ∑ j, Real.exp (logitS q k p ⟨c / 16, by omega⟩ i j)

/-- One layer of the encoder. -/
def layerS (h : Fin 2048 → Fin 128 → ℝ) (p : Fin 8 → Fin 2048 → Fin 2048 → ℝ) (wq wk wv wo : Fin 128 → Fin 128 → ℝ)
    (w1 : Fin 128 → Fin 256 → ℝ) (w2 : Fin 256 → Fin 128 → ℝ) : Fin 2048 → Fin 128 → ℝ :=
  ffS (resid h (attS (mm (lnS h) wq) (mm (lnS h) wk) (mm (lnS h) wv) p) wo) w1 w2

theorem var_pos (f : Fin 128 → ℝ) : 0 < (∑ x, (f x - mean f) * (f x - mean f)) / 128 + eps :=
  add_pos_of_nonneg_of_pos (div_nonneg (Finset.sum_nonneg fun x _ => mul_self_nonneg _) (by norm_num)) eps_pos

/-- The normalisation in the ideal semantics' operations. -/
theorem ln_coe (f : Fin 128 → ℝ) (j : Fin 128) :
    Ideal.div (((f j : ℝ) : EReal) - Ideal.div (∑ x, ((f x : ℝ) : EReal)) (Ideal.ofBits .f32 0x43000000#32))
      (Ideal.sqrt (Ideal.div (∑ x, (((f x : ℝ) : EReal) - Ideal.div (∑ x, ((f x : ℝ) : EReal)) (Ideal.ofBits .f32 0x43000000#32))
          * (((f x : ℝ) : EReal) - Ideal.div (∑ x, ((f x : ℝ) : EReal)) (Ideal.ofBits .f32 0x43000000#32))) (Ideal.ofBits .f32 0x43000000#32)
        + Ideal.ofBits .f32 0x3727C5AC#32)) = ((lnR f j : ℝ) : EReal) := by
  have hv := var_pos f
  simp only [c_128, c_eps, coe_sum, div_coe (show (128 : ℝ) ≠ 0 by norm_num), ← EReal.coe_sub, ← EReal.coe_mul, ← EReal.coe_add]
  change Ideal.div _ (Ideal.sqrt (((∑ x, (f x - mean f) * (f x - mean f)) / 128 + eps : ℝ) : EReal)) = _
  rw [sqrt_coe hv.le, div_coe (Real.sqrt_ne_zero'.mpr hv)]
  rfl

/-- Two softmaxes of shifted exponents agree: numerator and denominator shrink alike. -/
theorem softmax_shift {n : ℕ} (l v : Fin n → ℝ) (m : ℝ) :
    (∑ j, Real.exp (l j - m) * v j) / (∑ j, Real.exp (l j - m)) = (∑ j, Real.exp (l j) * v j) / ∑ j, Real.exp (l j) := by
  have e : ∀ j, Real.exp (l j - m) = Real.exp (-m) * Real.exp (l j) := fun j => by rw [← Real.exp_add]; congr 1; ring
  simp only [e, mul_assoc, ← Finset.mul_sum]
  exact mul_div_mul_left _ _ (Real.exp_pos _).ne'

end Cert.Enc

end
-- ==== Proof.FF.lean ====
/- The feed-forward call's payloads at real operands. -/
module

public import proofs.«01_k».proof.Proof.Spec
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Enc

open Idealize.ShloMosaic Idealize.ShloMosaic.TcCoe
open Cert.KernelIdeal Cert.KernelIdeal.Gen

/-- The indicator of two equal small words, as a float. -/
theorem sel_coe {x y : ℕ} (hx : x < 2 ^ 32) (hy : y < 2 ^ 32) :
    (FloatOps.sitofp (F := Ideal) .f32 (BitVec.setWidth 32 (IntOp.cmpi .eq (BitVec.ofNat 32 x) (BitVec.ofNat 32 y))) : EReal)
      = ((if x = y then 1 else 0 : ℝ) : EReal) := by
  have h : (BitVec.ofNat 32 x = BitVec.ofNat 32 y) ↔ x = y := by
    refine ⟨fun h => ?_, fun h => by rw [h]⟩
    have := congrArg BitVec.toNat h
    rwa [BitVec.toNat_ofNat, BitVec.toNat_ofNat, Nat.mod_eq_of_lt hx, Nat.mod_eq_of_lt hy] at this
  show (((BitVec.setWidth 32 (IntOp.cmpi .eq (BitVec.ofNat 32 x) (BitVec.ofNat 32 y))).toInt : ℝ) : EReal) = _
  by_cases e : x = y
  · subst e; simp [IntOp.cmpi]
  · have := mt h.mp e
    have hb : (BitVec.ofNat 32 x == BitVec.ofNat 32 y) = false := beq_eq_false_iff_ne.mpr this
    simp [IntOp.cmpi, e, hb]

/-- A sum against an indicator picks its term. -/
theorem sum_sel {n : ℕ} (f : Fin n → ℝ) (y : ℕ) (hy : y < n) : ∑ x : Fin n, f x * (if (x : ℕ) = y then 1 else 0 : ℝ) = f ⟨y, hy⟩ := by
  rw [Finset.sum_eq_single ⟨y, hy⟩]
  · simp
  · intro b _ hb; rw [if_neg (fun h => hb (Fin.ext h)), mul_zero]
  · simp

/-- The word that picks a head's numerator column. -/
theorem num_word (x : Fin 256) (j : Fin 128) :
    IntOp.addi (k3_pay4 (ix2 x j)) (Scalar.select (k3_pay6 (ix2 x j)) (IntOp.addi (k3_pay5 (ix2 x j)) (k3_pay7 (ix2 x j))) (k3_pay5 (ix2 x j)))
      = BitVec.ofNat 32 (32 * (j / 16) + j % 16) := by
  pointwise [k3_pay3, k3_pay4, k3_pay5, k3_pay6, k3_pay7]
  revert j; decide +kernel

/-- The word that picks a head's denominator column. -/
theorem den_word (x : Fin 256) (j : Fin 128) :
    IntOp.addi (IntOp.muli (k3_pay3 (ix2 x j)) 32#32) 16#32 = BitVec.ofNat 32 (32 * (j / 16) + 16) := by
  pointwise [k3_pay3]
  revert j; decide +kernel

/-- The heads' averages, read from the attention call's result: numerators over denominators. -/
def oX {n : ℕ} (acc : Fin n → Fin 256 → ℝ) (i : Fin n) (j : Fin 128) : ℝ :=
  acc i ⟨32 * (j / 16) + j % 16, by omega⟩ / acc i ⟨32 * (j / 16) + 16, by omega⟩

variable (acc : Fin 2048 → Fin 256 → ℝ) (h : Fin 2048 → Fin 128 → ℝ) (wo : Fin 128 → Fin 128 → ℝ) (w1 : Fin 128 → Fin 256 → ℝ) (w2 : Fin 256 → Fin 128 → ℝ)

theorem k3_8 (hd : ∀ i (j : Fin 128), acc i ⟨32 * (j / 16) + 16, by omega⟩ ≠ 0) (i : Fin 2048) (j : Fin 128) :
    k3_pay8 (F := Ideal) (k3_pay2 (up2 acc)) (iota Kind.tc S256x128 32 [0] iota_S256x128_d0_w32) k3_pay3 k3_pay4 k3_pay5 k3_pay6 k3_pay7
      (up2 h) (up2 wo) (ix2 i j) = ((resid h (oX acc) wo i j : ℝ) : EReal) := by
  pointwise [k3_pay8, k3_pay2]
  have hn (x : Fin 256) (j : Fin 128) := sel_coe (x := x) (y := 32 * (j / 16) + j % 16) (by omega) (by omega)
  have hm (x : Fin 256) (j : Fin 128) := sel_coe (x := x) (y := 32 * (j / 16) + 16) (by omega) (by omega)
  simp only [num_word, den_word, hn, hm, up2_apply, ← EReal.coe_mul, coe_sum]
  simp only [fun (j : Fin 128) => sum_sel (acc i) (32 * (j / 16) + j % 16) (by omega),
    fun (j : Fin 128) => sum_sel (acc i) (32 * (j / 16) + 16) (by omega), div_coe (hd i _), ← EReal.coe_mul, coe_sum, ← EReal.coe_add]
  rfl

/-- What the body leaves in its result, at real operands. -/
theorem out3_eq (hd : ∀ i (j : Fin 128), acc i ⟨32 * (j / 16) + 16, by omega⟩ ≠ 0) :
    out3_5 (F := Ideal) (up2 acc) (up2 h) (up2 wo) (up2 w1) (up2 w2) = up2 (ffS (resid h (oX acc) wo) w1 w2) := by
  refine eq_up2 _ _ fun i j => ?_
  unfold out3_5 k3_pay11 k3_pay12 k3_pay13 k3_pay14 k3_pay15 k3_pay16 k3_pay17
  frame_out
  pointwise [k3_pay1, k3_pay9, k3_pay10]
  simp only [k3_8 acc h wo hd, ln_coe (fun x => resid h (oX acc) wo i x)]
  simp only [up2_apply, ← EReal.coe_mul, coe_sum, ← EReal.coe_zero, coe_max, ← EReal.coe_add]
  rfl

theorem out6_eq : @out6_5 Ideal _ = @out3_5 Ideal _ := rfl

variable (V : (c : Dev nD) → (b : Ref sig .tc) → Buf (Elt Ideal) ((c : Thread nD τ).loc b)) (c : Dev nD)

theorem idx3_0 : ∀ t : Fin cfg3.N, win3_0.index t = ![0, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0, 0] := (by decide +kernel : ∀ t : Fin grid3.N, _)
theorem idx3_5 : ∀ t : Fin cfg3.N, win3_5.index t = ![0, 0] := (by decide +kernel : ∀ t : Fin grid3.N, _)

theorem iblk3_0_eq (e : V c main_v24 = up2 acc) (t : Fin cfg3.N) : iblk3 V c 0 t = up2 acc := by
  funext y
  blk_simp [iblk3]
  show V c main_v24 _ = _
  rw [e, show (win3_0.blk t).view.emb y = y from by blk_ext [idx3_0]]

theorem iblk3_1_eq (e : V c main_v12_0 = up2 h) (t : Fin cfg3.N) : iblk3 V c 1 t = up2 h := by
  funext y
  blk_simp [iblk3]
  show V c main_v12_0 _ = _
  rw [e, show (win3_1.blk t).view.emb y = y from by blk_ext [idx3_1]]

theorem iblk3_2_eq (e : V c main_v26 = up2 wo) (t : Fin cfg3.N) : iblk3 V c 2 t = up2 wo := by
  funext y
  blk_simp [iblk3]
  show V c main_v26 _ = _
  rw [e, show (win3_2.blk t).view.emb y = y from by blk_ext [idx3_2]]

theorem iblk3_3_eq (e : V c main_v28 = up2 w1) (t : Fin cfg3.N) : iblk3 V c 3 t = up2 w1 := by
  funext y
  blk_simp [iblk3]
  show V c main_v28 _ = _
  rw [e, show (win3_3.blk t).view.emb y = y from by blk_ext [idx3_3]]

theorem iblk3_4_eq (e : V c main_v30 = up2 w2) (t : Fin cfg3.N) : iblk3 V c 4 t = up2 w2 := by
  funext y
  blk_simp [iblk3]
  show V c main_v30 _ = _
  rw [e, show (win3_4.blk t).view.emb y = y from by blk_ext [idx3_4]]

/-- The first feed-forward call's result. -/
theorem arr3 (h0 : V c main_v24 = up2 acc) (h1 : V c main_v12_0 = up2 h) (h2 : V c main_v26 = up2 wo) (h3 : V c main_v28 = up2 w1) (h4 : V c main_v30 = up2 w2)
    (hd : ∀ i (j : Fin 128), acc i ⟨32 * (j / 16) + 16, by omega⟩ ≠ 0) :
    (dat3 V c).arrAt 5 cfg3.N = up2 (ffS (resid h (oX acc) wo) w1 w2) := by
  refine (dat3 V c).arrAt_eq_of_covers 5 _ (by decide +kernel) fun t hf y => ?_
  blk_simp
  rw [after3_5, iblk3_0_eq acc V c h0, iblk3_1_eq h V c h1, iblk3_2_eq wo V c h2, iblk3_3_eq w1 V c h3, iblk3_4_eq w2 V c h4, out3_eq acc h wo w1 w2 hd,
    show (win3_5.blk t).view.emb y = y from by blk_ext [idx3_5]]

theorem idx6_0 : ∀ t : Fin cfg6.N, win6_0.index t = ![0, 0] := (by decide +kernel : ∀ t : Fin grid6.N, _)
theorem idx6_1 : ∀ t : Fin cfg6.N, win6_1.index t = ![0, 0] := (by decide +kernel : ∀ t : Fin grid6.N, _)
theorem idx6_2 : ∀ t : Fin cfg6.N, win6_2.index t = ![0, 0] := (by decide +kernel : ∀ t : Fin grid6.N, _)
theorem idx6_3 : ∀ t : Fin cfg6.N, win6_3.index t = ![0, 0] := (by decide +kernel : ∀ t : Fin grid6.N, _)
theorem idx6_4 : ∀ t : Fin cfg6.N, win6_4.index t = ![0, 0] := (by decide +kernel : ∀ t : Fin grid6.N, _)
theorem idx6_5 : ∀ t : Fin cfg6.N, win6_5.index t = ![0, 0] := (by decide +kernel : ∀ t : Fin grid6.N, _)

theorem iblk6_0_eq (e : V c main_v43 = up2 acc) (t : Fin cfg6.N) : iblk6 V c 0 t = up2 acc := by
  funext y
  blk_simp [iblk6]
  show V c main_v43 _ = _
  rw [e, show (win6_0.blk t).view.emb y = y from by blk_ext [idx6_0]]

theorem iblk6_1_eq (e : V c main_v31 = up2 h) (t : Fin cfg6.N) : iblk6 V c 1 t = up2 h := by
  funext y
  blk_simp [iblk6]
  show V c main_v31 _ = _
  rw [e, show (win6_1.blk t).view.emb y = y from by blk_ext [idx6_1]]

theorem iblk6_2_eq (e : V c main_v45 = up2 wo) (t : Fin cfg6.N) : iblk6 V c 2 t = up2 wo := by
  funext y
  blk_simp [iblk6]
  show V c main_v45 _ = _
  rw [e, show (win6_2.blk t).view.emb y = y from by blk_ext [idx6_2]]

theorem iblk6_3_eq (e : V c main_v47 = up2 w1) (t : Fin cfg6.N) : iblk6 V c 3 t = up2 w1 := by
  funext y
  blk_simp [iblk6]
  show V c main_v47 _ = _
  rw [e, show (win6_3.blk t).view.emb y = y from by blk_ext [idx6_3]]

theorem iblk6_4_eq (e : V c main_v49 = up2 w2) (t : Fin cfg6.N) : iblk6 V c 4 t = up2 w2 := by
  funext y
  blk_simp [iblk6]
  show V c main_v49 _ = _
  rw [e, show (win6_4.blk t).view.emb y = y from by blk_ext [idx6_4]]

/-- The second feed-forward call's result. -/
theorem arr6 (h0 : V c main_v43 = up2 acc) (h1 : V c main_v31 = up2 h) (h2 : V c main_v45 = up2 wo) (h3 : V c main_v47 = up2 w1) (h4 : V c main_v49 = up2 w2)
    (hd : ∀ i (j : Fin 128), acc i ⟨32 * (j / 16) + 16, by omega⟩ ≠ 0) :
    (dat6 V c).arrAt 5 cfg6.N = up2 (ffS (resid h (oX acc) wo) w1 w2) := by
  refine (dat6 V c).arrAt_eq_of_covers 5 _ (by decide +kernel) fun t hf y => ?_
  blk_simp
  rw [after6_5, iblk6_0_eq acc V c h0, iblk6_1_eq h V c h1, iblk6_2_eq wo V c h2, iblk6_3_eq w1 V c h3, iblk6_4_eq w2 V c h4, out6_eq, out3_eq acc h wo w1 w2 hd,
    show (win6_5.blk t).view.emb y = y from by blk_ext [idx6_5]]

end Cert.Enc

end
-- ==== Proof.Pre.lean ====
/- The call before the attention: queries, keys and values laid out by heads, with a column beside each head. -/
module

public import proofs.«01_k».proof.Proof.FF

@[expose] public section

set_option maxRecDepth 16384

noncomputable section

namespace Cert.Enc

open Idealize.ShloMosaic Idealize.ShloMosaic.TcCoe
open Cert.KernelIdeal Cert.KernelIdeal.Gen

/-- An extended real that is a real at least zero. -/
def IsP (x : EReal) : Prop := ∃ r : ℝ, 0 ≤ r ∧ x = (r : EReal)

theorem IsP.add {x y : EReal} : IsP x → IsP y → IsP (x + y) := by
  rintro ⟨a, ha, rfl⟩ ⟨b, hb, rfl⟩; exact ⟨a + b, add_nonneg ha hb, (EReal.coe_add a b).symm⟩

theorem IsP.mul {x y : EReal} : IsP x → IsP y → IsP (x * y) := by
  rintro ⟨a, ha, rfl⟩ ⟨b, hb, rfl⟩; exact ⟨a * b, mul_nonneg ha hb, (EReal.coe_mul a b).symm⟩

theorem IsP.sqrt {x : EReal} : IsP x → IsP (Ideal.sqrt x) := by
  rintro ⟨a, ha, rfl⟩; exact ⟨_, Real.sqrt_nonneg a, sqrt_coe ha⟩

theorem IsP.sum {ι : Type*} {s : Finset ι} {f : ι → EReal} (h : ∀ k, IsP (f k)) : IsP (∑ k ∈ s, f k) := by
  choose g hg hf using h
  exact ⟨∑ k ∈ s, g k, Finset.sum_nonneg fun k _ => hg k, by simp only [hf, coe_sum]⟩

theorem IsP.fold_max {n : ℕ} (hn : 0 < n) {f : Fin n → EReal} (h : ∀ k, IsP (f k)) : IsP (Finset.univ.fold max (⊥ : EReal) f) := by
  choose g hg hf using h
  obtain ⟨k, hk⟩ := fold_max_coe hn g
  exact ⟨g k, hg k, by rw [show f = fun k => ((g k : ℝ) : EReal) from funext hf, hk]⟩

theorem IsP.mul_self (r : ℝ) : IsP ((r : EReal) * (r : EReal)) := ⟨r * r, mul_self_nonneg r, (EReal.coe_mul r r).symm⟩

theorem IsP.abs (r : ℝ) : IsP (Scalar.absf (F := Ideal) (φ := .f32) (r : EReal)) :=
  ⟨|r|, abs_nonneg r, by
    show max (r : EReal) (-(r : EReal)) = _
    rw [← EReal.coe_neg, coe_max]; rfl⟩

/-- A bit as a float. -/
theorem bit_coe (b : BitVec 1) : (FloatOps.sitofp (F := Ideal) .f32 (BitVec.setWidth 32 b) : EReal) = ((if b = 1#1 then 1 else 0 : ℝ) : EReal) := by
  have h : (BitVec.setWidth 32 b).toInt = if b = 1#1 then 1 else 0 := by revert b; decide
  show (((BitVec.setWidth 32 b).toInt : ℝ) : EReal) = _
  rw [h]; split <;> simp

theorem IsP.bit (b : BitVec 1) : IsP (FloatOps.sitofp (F := Ideal) .f32 (BitVec.setWidth 32 b) : EReal) :=
  ⟨_, by split <;> norm_num, bit_coe b⟩

variable (H q k v : Fin 2048 → Fin 128 → ℝ) (wq wk wv wz : Fin 128 → Fin 128 → ℝ) (w : Fin 9 → Fin 8 → ℝ)

theorem k1_6 : k1_pay6 (F := Ideal) (up2 H) (up2 wz) = up2 (mm (lnS H) wz) := by
  refine eq_up2 _ _ fun i j => ?_
  pointwise [k1_pay6, k1_pay5]
  simp only [up2_apply, ln_coe (fun x => H i x)]
  simp only [← EReal.coe_mul, coe_sum]
  rfl

theorem k1_7 : k1_pay7 (F := Ideal) (up2 H) (up2 wz) = up2 (mm (lnS H) wz) := k1_6 H wz
theorem k1_8 : k1_pay8 (F := Ideal) (up2 H) (up2 wz) = up2 (mm (lnS H) wz) := k1_6 H wz

theorem k1_12 (v27 b1 v29 v36 b2 b3) (i : Fin 2048) (h : Fin 8) : IsP (k1_pay12 (F := Ideal) (up2 q) v27 b1 v29 v36 b2 b3 (ix2 i h)) := by
  pointwise [k1_pay12, k1_pay11]
  exact IsP.sqrt (IsP.sum fun x => (IsP.mul_self _).mul (IsP.bit _))

theorem k1_13 (v27 b1 v29 v36 b2 b3) (i : Fin 1) (h : Fin 8) : IsP (k1_pay13 (F := Ideal) (up2 q) v27 b1 v29 v36 b2 b3 (ix2 i h)) := by
  pointwise [k1_pay13, k1_pay11]
  rw [c_neg_inf]
  exact IsP.sqrt (IsP.fold_max (by decide) fun y => IsP.sum fun x => (IsP.mul_self _).mul (IsP.bit _))

theorem p1_eq (x : Fin 128) (c : Fin 256) : k1_pay29 (F := Ideal) (iota Kind.tc S128x256 32 [0] iota_S128x256_d0_w32) (iota Kind.tc S128x256 32 [1] iota_S128x256_d1_w32) 32#32 k1_pay26 k1_pay27 k1_pay28 (ix2 x c)
   = ((if (x : ℕ) = 16 * (c / 32) + c % 16 ∧ (c : ℕ) % 32 < 16 then 1 else 0 : ℝ) : EReal) := by
  pointwise [k1_pay29, k1_pay26, k1_pay27, k1_pay28]
  rw [bit_coe]
  congr 1
  refine if_congr ?_ rfl rfl
  revert x c; decide +kernel

theorem pm_eq (x : Fin 8) (c : Fin 256) : k1_pay33 (F := Ideal) (iota Kind.tc S8x256 32 [0] iota_S8x256_d0_w32) (iota Kind.tc S8x256 32 [1] iota_S8x256_d1_w32)
    32#32 k1_pay30 k1_pay31 k1_pay32 0#32 (ix2 x c) = ((if (x : ℕ) = c / 32 ∧ (c : ℕ) % 32 = 16 then 1 else 0 : ℝ) : EReal) := by
  pointwise [k1_pay33, k1_pay30, k1_pay31, k1_pay32]
  rw [bit_coe]
  congr 1
  refine if_congr ?_ rfl rfl
  revert x c; decide +kernel

theorem neg_eq (x : Fin 1) (c : Fin 256) : k1_pay1 (F := Ideal) 32#32 k1_pay34 k1_pay35 k1_pay36 (ix2 x c)
    = ((if (c : ℕ) % 32 = 16 then -1 else 0 : ℝ) : EReal) := by
  have h (b : BitVec 1) : (Scalar.select b (Ideal.ofBits .f32 0xBF800000#32) 0 : EReal) = ((if b = 1#1 then -1 else 0 : ℝ) : EReal) := by
    rw [c_neg_one]
    rcases (by decide : ∀ b : BitVec 1, b = 0#1 ∨ b = 1#1) b with rfl | rfl
    · show (0 : EReal) = _; simp
    · show ((-1 : ℝ) : EReal) = _; simp
  pointwise [k1_pay1, k1_pay34, k1_pay35, k1_pay36]
  rw [h]
  congr 1
  refine if_congr ?_ rfl rfl
  revert x c; decide +kernel

/-- Columns laid out by heads: sixteen of a head, scaled, then one that is given, then zeros. -/
def extS {n : ℕ} (f : Fin n → Fin 128 → ℝ) (s : ℝ) (z : Fin n → Fin 8 → ℝ) (i : Fin n) (c : Fin 256) : ℝ :=
  (if (c : ℕ) % 32 < 16 then f i ⟨16 * (c / 32) + c % 16, by omega⟩ * s else 0) + (if (c : ℕ) % 32 = 16 then z i ⟨c / 32, by omega⟩ else 0)

theorem sum_sel_if {n : ℕ} (f : Fin n → ℝ) (y : ℕ) (hy : y < n) (P : Prop) [Decidable P] (s : ℝ) :
    ∑ x : Fin n, f x * ((if (x : ℕ) = y ∧ P then 1 else 0 : ℝ) * s) = if P then f ⟨y, hy⟩ * s else 0 := by
  by_cases h : P
  · simp only [h, and_true, if_true]
    rw [← sum_sel f y hy, Finset.sum_mul]; exact Finset.sum_congr rfl fun x _ => (mul_assoc _ _ _).symm
  · simp [h]

theorem k1_2 (P : FVec Ideal S128x256 .f32)
    (hP : ∀ x c, P (ix2 x c) = ((if (x : ℕ) = 16 * (c / 32) + c % 16 ∧ (c : ℕ) % 32 < 16 then 1 else 0 : ℝ) : EReal)) (Q : FVec Ideal S8x256 .f32)
    (hQ : ∀ x c, Q (ix2 x c) = ((if (x : ℕ) = c / 32 ∧ (c : ℕ) % 32 = 16 then 1 else 0 : ℝ) : EReal))
    (z : Fin 2048 → Fin 8 → ℝ) (M : FVec Ideal S2048x8 .f32) (hM : ∀ i h, M (ix2 i h) = ((z i h : ℝ) : EReal)) :
    k1_pay2 (F := Ideal) (up2 q) M P
      Q
      = up2 (extS q (1 / 4) z) := by
  refine eq_up2 _ _ fun i c => ?_
  pointwise [k1_pay2]
  simp only [hP, hQ, hM, up2_apply, c_quarter, ← EReal.coe_mul, coe_sum, ← EReal.coe_add]
  rw [sum_sel_if (q i) (16 * (c / 32) + c % 16) (by omega)]
  have e := sum_sel_if (z i) (c / 32) (by omega) ((c : ℕ) % 32 = 16) 1
  simp only [mul_one] at e
  rw [e]; rfl

theorem k1_3 (P : FVec Ideal S128x256 .f32)
    (hP : ∀ x c, P (ix2 x c) = ((if (x : ℕ) = 16 * (c / 32) + c % 16 ∧ (c : ℕ) % 32 < 16 then 1 else 0 : ℝ) : EReal)) :
    k1_pay3 (F := Ideal) (up2 q) P
      32#32 k1_pay34 k1_pay35 k1_pay36 = up2 (extS q 1 fun _ _ => -1) := by
  refine eq_up2 _ _ fun i c => ?_
  pointwise [k1_pay3]
  have e := sum_sel_if (q i) (16 * (c / 32) + c % 16) (by omega) ((c : ℕ) % 32 < 16) 1
  simp only [hP, neg_eq, up2_apply, ← EReal.coe_mul, coe_sum, ← EReal.coe_add]
  simp only [mul_one] at e
  rw [e]; simp [extS]

theorem k1_4 (P : FVec Ideal S128x256 .f32)
    (hP : ∀ x c, P (ix2 x c) = ((if (x : ℕ) = 16 * (c / 32) + c % 16 ∧ (c : ℕ) % 32 < 16 then 1 else 0 : ℝ) : EReal)) :
    k1_pay4 (F := Ideal) (up2 q) P
      32#32 k1_pay34 k1_pay35 k1_pay36 = up2 (extS q 1 fun _ _ => 1) := by
  refine eq_up2 _ _ fun i c => ?_
  pointwise [k1_pay4]
  have e := sum_sel_if (q i) (16 * (c / 32) + c % 16) (by omega) ((c : ℕ) % 32 < 16) 1
  simp only [hP, neg_eq, up2_apply, ← EReal.coe_mul, coe_sum, ← EReal.coe_sub]
  simp only [mul_one] at e
  rw [e]
  congr 1
  simp only [extS, mul_one, sub_eq_add_neg]
  congr 1
  split <;> simp

theorem IsP.dite {P : Prop} [Decidable P] {x : P → EReal} {y : ¬P → EReal} (hx : ∀ h, IsP (x h)) (hy : ∀ h, IsP (y h)) :
    IsP (if h : P then x h else y h) := by split; exacts [hx _, hy _]

theorem k1_2' (P : FVec Ideal S128x256 .f32)
    (hP : ∀ x c, P (ix2 x c) = ((if (x : ℕ) = 16 * (c / 32) + c % 16 ∧ (c : ℕ) % 32 < 16 then 1 else 0 : ℝ) : EReal)) (Q : FVec Ideal S8x256 .f32)
    (hQ : ∀ x c, Q (ix2 x c) = ((if (x : ℕ) = c / 32 ∧ (c : ℕ) % 32 = 16 then 1 else 0 : ℝ) : EReal))
    (M : FVec Ideal S2048x8 .f32) (hM : ∀ i h, IsP (M (ix2 i h))) :
    ∃ z, k1_pay2 (F := Ideal) (up2 q) M P
      Q
      = up2 (extS q (1 / 4) z) := by
  choose z _ hz using hM
  exact ⟨z, k1_2 q P hP Q hQ z M hz⟩

variable (c : Dev nD) (a0 : Memref sig .tc .vmem S2048x128 .f32) (h0 : a0.IsWhole) (a1 : Memref sig .tc .vmem S128x128 .f32) (h1 : a1.IsWhole) (a2 : Memref sig .tc .vmem S128x128 .f32) (h2 : a2.IsWhole) (a3 : Memref sig .tc .vmem S128x128 .f32) (h3 : a3.IsWhole) (a4 : Memref sig .tc .smem S9x8 .f32) (h4 : a4.IsWhole) (a5 : Memref sig .tc .vmem S2048x256 .f32) (h5 : a5.IsWhole) (a6 : Memref sig .tc .vmem S2048x256 .f32) (h6 : a6.IsWhole) (a7 : Memref sig .tc .vmem S2048x256 .f32) (h7 : a7.IsWhole)

theorem out1_5 : ∃ z, out1_A_5 (F := Ideal) c a0 h0 a1 h1 a2 h2 a3 h3 a4 h4 a5 h5 a6 h6 a7 h7 (up2 H) (up2 wq) (up2 wk) (up2 wv) (up2 w)
    = up2 (extS (mm (lnS H) wq) (1 / 4) z) := by
  unfold out1_A_5
  frame_out
  rw [k1_6, k1_7]
  refine k1_2' _ _ p1_eq _ pm_eq _ fun i h => ?_
  pointwise [k1_pay25, k1_pay24, k1_pay23, k1_pay22, k1_pay21, k1_pay20, k1_pay19, k1_pay18, k1_pay17, k1_pay16, k1_pay15, k1_pay14]
  rw [c_quarter]
  refine IsP.add (IsP.mul (IsP.mul ⟨_, by norm_num, rfl⟩ (k1_12 _ _ _ _ _ _ _ _ _)) (k1_13 _ _ _ _ _ _ _ _ _)) ?_
  repeat' first | exact IsP.abs _ | refine IsP.add ?_ ?_ | refine IsP.dite (fun _ => ?_) (fun _ => ?_)

theorem out1_6 : out1_A_6 (F := Ideal) c a0 h0 a1 h1 a2 h2 a3 h3 a4 h4 a5 h5 a6 h6 a7 h7 (up2 H) (up2 wq) (up2 wk) (up2 wv) (up2 w)
    = up2 (extS (mm (lnS H) wk) 1 fun _ _ => -1) := by
  unfold out1_A_6
  frame_out
  rw [k1_7, k1_3 _ _ p1_eq]

theorem out1_7 : out1_A_7 (F := Ideal) c a0 h0 a1 h1 a2 h2 a3 h3 a4 h4 a5 h5 a6 h6 a7 h7 (up2 H) (up2 wq) (up2 wk) (up2 wv) (up2 w)
    = up2 (extS (mm (lnS H) wv) 1 fun _ _ => 1) := by
  unfold out1_A_7
  frame_out
  rw [k1_8, k1_4 _ _ p1_eq]

variable (V : (c : Dev nD) → (b : Ref sig .tc) → Buf (Elt Ideal) ((c : Thread nD τ).loc b))

theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0, 0] := (by decide +kernel : ∀ t : Fin grid1.N, _)

theorem iblk1_0_eq (e : V c main_v12_0 = up2 H) (t : Fin cfg1.N) : iblk1 V c 0 t = up2 H := by
  funext y
  blk_simp [iblk1]
  show V c main_v12_0 _ = _
  rw [e, show (win1_0.blk t).view.emb y = y from by blk_ext [idx1_0]]

theorem iblk1_1_eq (e : V c main_v14 = up2 wq) (t : Fin cfg1.N) : iblk1 V c 1 t = up2 wq := by
  funext y
  blk_simp [iblk1]
  show V c main_v14 _ = _
  rw [e, show (win1_1.blk t).view.emb y = y from by blk_ext [idx1_1]]

theorem iblk1_2_eq (e : V c main_v16 = up2 wk) (t : Fin cfg1.N) : iblk1 V c 2 t = up2 wk := by
  funext y
  blk_simp [iblk1]
  show V c main_v16 _ = _
  rw [e, show (win1_2.blk t).view.emb y = y from by blk_ext [idx1_2]]

theorem iblk1_3_eq (e : V c main_v18 = up2 wv) (t : Fin cfg1.N) : iblk1 V c 3 t = up2 wv := by
  funext y
  blk_simp [iblk1]
  show V c main_v18 _ = _
  rw [e, show (win1_3.blk t).view.emb y = y from by blk_ext [idx1_3]]

theorem iblk1_4_eq (e : V c main_v20 = up2 w) (t : Fin cfg1.N) : iblk1 V c 4 t = up2 w := by
  funext y
  blk_simp [iblk1]
  show V c main_v20 _ = _
  rw [e, show (win1_4.blk t).view.emb y = y from by blk_ext [idx1_4]]

theorem arr1_5 (e0 : V c main_v12_0 = up2 H) (e1 : V c main_v14 = up2 wq) (e2 : V c main_v16 = up2 wk) (e3 : V c main_v18 = up2 wv) (e4 : V c main_v20 = up2 w) :
    ∃ z, (dat1 V c).arrAt 5 cfg1.N = up2 (extS (mm (lnS H) wq) (1 / 4) z) := by
  have t0 : Fin cfg1.N := ⟨0, by decide +kernel⟩
  have hs : Subsingleton (Fin cfg1.N) := ⟨by decide +kernel⟩
  obtain ⟨z, hz⟩ := out1_5 H wq wk wv w c (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0)
  refine ⟨z, (dat1 V c).arrAt_eq_of_covers 5 _ (by decide +kernel) fun t hf y => ?_⟩
  obtain rfl : t = t0 := hs.elim _ _
  blk_simp
  have e : (outsAt1 V c t).1 = up2 (extS (mm (lnS H) wq) (1 / 4) z) := by
    unfold outsAt1
    dsimp only
    rw [iblk1_0_eq H c V e0, iblk1_1_eq wq c V e1, iblk1_2_eq wk c V e2, iblk1_3_eq wv c V e3, iblk1_4_eq w c V e4, hz]
  rw [after1_5, e, show (win1_5.blk t).view.emb y = y from by blk_ext [idx1_5]]

theorem arr1_6 (e0 : V c main_v12_0 = up2 H) (e1 : V c main_v14 = up2 wq) (e2 : V c main_v16 = up2 wk) (e3 : V c main_v18 = up2 wv) (e4 : V c main_v20 = up2 w) :
    (dat1 V c).arrAt 6 cfg1.N = up2 (extS (mm (lnS H) wk) 1 fun _ _ => -1) := by
  refine (dat1 V c).arrAt_eq_of_covers 6 _ (by decide +kernel) fun t hf y => ?_
  blk_simp
  have e : (outsAt1 V c t).2.1 = up2 (extS (mm (lnS H) wk) 1 fun _ _ => -1) := by
    unfold outsAt1
    dsimp only
    rw [iblk1_0_eq H c V e0, iblk1_1_eq wq c V e1, iblk1_2_eq wk c V e2, iblk1_3_eq wv c V e3, iblk1_4_eq w c V e4, out1_6]
  rw [after1_6, e, show (win1_6.blk t).view.emb y = y from by blk_ext [idx1_6]]

theorem arr1_7 (e0 : V c main_v12_0 = up2 H) (e1 : V c main_v14 = up2 wq) (e2 : V c main_v16 = up2 wk) (e3 : V c main_v18 = up2 wv) (e4 : V c main_v20 = up2 w) :
    (dat1 V c).arrAt 7 cfg1.N = up2 (extS (mm (lnS H) wv) 1 fun _ _ => 1) := by
  refine (dat1 V c).arrAt_eq_of_covers 7 _ (by decide +kernel) fun t hf y => ?_
  blk_simp
  have e : (outsAt1 V c t).2.2 = up2 (extS (mm (lnS H) wv) 1 fun _ _ => 1) := by
    unfold outsAt1
    dsimp only
    rw [iblk1_0_eq H c V e0, iblk1_1_eq wq c V e1, iblk1_2_eq wk c V e2, iblk1_3_eq wv c V e3, iblk1_4_eq w c V e4, out1_7]
  rw [after1_7, e, show (win1_7.blk t).view.emb y = y from by blk_ext [idx1_7]]

theorem out4_5 : @out4_A_5 Ideal _ = @out1_A_5 Ideal _ := by sl_kernel_rfl
theorem out4_6 : @out4_A_6 Ideal _ = @out1_A_6 Ideal _ := by sl_kernel_rfl
theorem out4_7 : @out4_A_7 Ideal _ = @out1_A_7 Ideal _ := by sl_kernel_rfl

theorem idx4_0 : ∀ t : Fin cfg4.N, win4_0.index t = ![0, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![0, 0] := (by decide +kernel : ∀ t : Fin grid4.N, _)
theorem idx4_4 : ∀ t : Fin cfg4.N, win4_4.index t = ![0, 0] := (by decide +kernel : ∀ t : Fin grid4.N, _)
theorem idx4_5 : ∀ t : Fin cfg4.N, win4_5.index t = ![0, 0] := (by decide +kernel : ∀ t : Fin grid4.N, _)
theorem idx4_6 : ∀ t : Fin cfg4.N, win4_6.index t = ![0, 0] := (by decide +kernel : ∀ t : Fin grid4.N, _)
theorem idx4_7 : ∀ t : Fin cfg4.N, win4_7.index t = ![0, 0] := (by decide +kernel : ∀ t : Fin grid4.N, _)

theorem iblk4_0_eq (e : V c main_v31 = up2 H) (t : Fin cfg4.N) : iblk4 V c 0 t = up2 H := by
  funext y
  blk_simp [iblk4]
  show V c main_v31 _ = _
  rw [e, show (win4_0.blk t).view.emb y = y from by blk_ext [idx4_0]]

theorem iblk4_1_eq (e : V c main_v33 = up2 wq) (t : Fin cfg4.N) : iblk4 V c 1 t = up2 wq := by
  funext y
  blk_simp [iblk4]
  show V c main_v33 _ = _
  rw [e, show (win4_1.blk t).view.emb y = y from by blk_ext [idx4_1]]

theorem iblk4_2_eq (e : V c main_v35 = up2 wk) (t : Fin cfg4.N) : iblk4 V c 2 t = up2 wk := by
  funext y
  blk_simp [iblk4]
  show V c main_v35 _ = _
  rw [e, show (win4_2.blk t).view.emb y = y from by blk_ext [idx4_2]]

theorem iblk4_3_eq (e : V c main_v37 = up2 wv) (t : Fin cfg4.N) : iblk4 V c 3 t = up2 wv := by
  funext y
  blk_simp [iblk4]
  show V c main_v37 _ = _
  rw [e, show (win4_3.blk t).view.emb y = y from by blk_ext [idx4_3]]

theorem iblk4_4_eq (e : V c main_v39 = up2 w) (t : Fin cfg4.N) : iblk4 V c 4 t = up2 w := by
  funext y
  blk_simp [iblk4]
  show V c main_v39 _ = _
  rw [e, show (win4_4.blk t).view.emb y = y from by blk_ext [idx4_4]]

theorem arr4_5 (e0 : V c main_v31 = up2 H) (e1 : V c main_v33 = up2 wq) (e2 : V c main_v35 = up2 wk) (e3 : V c main_v37 = up2 wv) (e4 : V c main_v39 = up2 w) :
    ∃ z, (dat4 V c).arrAt 5 cfg4.N = up2 (extS (mm (lnS H) wq) (1 / 4) z) := by
  have t0 : Fin cfg4.N := ⟨0, by decide +kernel⟩
  have hs : Subsingleton (Fin cfg4.N) := ⟨by decide +kernel⟩
  obtain ⟨z, hz⟩ := out1_5 H wq wk wv w c (ms4_0 t0) (hs4_0 t0) (ms4_1 t0) (hs4_1 t0) (ms4_2 t0) (hs4_2 t0) (ms4_3 t0) (hs4_3 t0) (ms4_4 t0) (hs4_4 t0) (ms4_5 t0) (hs4_5 t0) (ms4_6 t0) (hs4_6 t0) (ms4_7 t0) (hs4_7 t0)
  refine ⟨z, (dat4 V c).arrAt_eq_of_covers 5 _ (by decide +kernel) fun t hf y => ?_⟩
  obtain rfl : t = t0 := hs.elim _ _
  blk_simp
  have e : (outsAt4 V c t).1 = up2 (extS (mm (lnS H) wq) (1 / 4) z) := by
    unfold outsAt4
    dsimp only
    rw [iblk4_0_eq H c V e0, iblk4_1_eq wq c V e1, iblk4_2_eq wk c V e2, iblk4_3_eq wv c V e3, iblk4_4_eq w c V e4, out4_5, hz]
  rw [after4_5, e, show (win4_5.blk t).view.emb y = y from by blk_ext [idx4_5]]

theorem arr4_6 (e0 : V c main_v31 = up2 H) (e1 : V c main_v33 = up2 wq) (e2 : V c main_v35 = up2 wk) (e3 : V c main_v37 = up2 wv) (e4 : V c main_v39 = up2 w) :
    (dat4 V c).arrAt 6 cfg4.N = up2 (extS (mm (lnS H) wk) 1 fun _ _ => -1) := by
  refine (dat4 V c).arrAt_eq_of_covers 6 _ (by decide +kernel) fun t hf y => ?_
  blk_simp
  have e : (outsAt4 V c t).2.1 = up2 (extS (mm (lnS H) wk) 1 fun _ _ => -1) := by
    unfold outsAt4
    dsimp only
    rw [iblk4_0_eq H c V e0, iblk4_1_eq wq c V e1, iblk4_2_eq wk c V e2, iblk4_3_eq wv c V e3, iblk4_4_eq w c V e4, out4_6, out1_6]
  rw [after4_6, e, show (win4_6.blk t).view.emb y = y from by blk_ext [idx4_6]]

theorem arr4_7 (e0 : V c main_v31 = up2 H) (e1 : V c main_v33 = up2 wq) (e2 : V c main_v35 = up2 wk) (e3 : V c main_v37 = up2 wv) (e4 : V c main_v39 = up2 w) :
    (dat4 V c).arrAt 7 cfg4.N = up2 (extS (mm (lnS H) wv) 1 fun _ _ => 1) := by
  refine (dat4 V c).arrAt_eq_of_covers 7 _ (by decide +kernel) fun t hf y => ?_
  blk_simp
  have e : (outsAt4 V c t).2.2 = up2 (extS (mm (lnS H) wv) 1 fun _ _ => 1) := by
    unfold outsAt4
    dsimp only
    rw [iblk4_0_eq H c V e0, iblk4_1_eq wq c V e1, iblk4_2_eq wk c V e2, iblk4_3_eq wv c V e3, iblk4_4_eq w c V e4, out4_7, out1_7]
  rw [after4_7, e, show (win4_7.blk t).view.emb y = y from by blk_ext [idx4_7]]

end Cert.Enc

end
-- ==== Proof.Attn.lean ====
/- The attention call's payloads at real operands: the exponentials of a block of rows against all the rows, times the values. -/
module

public import proofs.«01_k».proof.Proof.Consts
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Enc

open Idealize.ShloMosaic
open Cert.KernelIdeal Cert.KernelIdeal.Gen

/-- The squared distance that the call forms from the two packed matrices, kept above the epsilon. -/
def d2X {n : ℕ} (a : Fin n → Fin 16 → ℝ) (b : Fin 2048 → Fin 16 → ℝ) (i : Fin n) (j : Fin 2048) : ℝ :=
  max (∑ x : Fin 5, a i ⟨x, by omega⟩ * b j ⟨x, by omega⟩) 0 + del

/-- The squared difference of the chain numbers that it forms from the next three columns. -/
def dcX {n : ℕ} (a : Fin n → Fin 16 → ℝ) (b : Fin 2048 → Fin 16 → ℝ) (i : Fin n) (j : Fin 2048) : ℝ :=
  ∑ x : Fin 3, a i ⟨5 + x, by omega⟩ * b j ⟨5 + x, by omega⟩

/-- A pair's indicator of a common chain. -/
def sameX {n : ℕ} (a : Fin n → Fin 16 → ℝ) (b : Fin 2048 → Fin 16 → ℝ) (i : Fin n) (j : Fin 2048) : ℝ :=
  if dcX a b i j = 0 then 1 else 0

/-- A pair's bias in a head: the eight radial functions of the distance and the chain indicator, weighed. -/
def biasX (d2 s : ℝ) (w : Fin 9 → Fin 8 → ℝ) (h : Fin 8) : ℝ :=
  (∑ c : Fin 8, Real.exp (-((Real.sqrt d2 - c * (2 / 7)) ^ 2) * 8) * w ⟨c, by omega⟩ h) + s * w 8 h

/-- The exponent of a pair in a head. -/
def argX {n : ℕ} (a : Fin n → Fin 16 → ℝ) (b : Fin 2048 → Fin 16 → ℝ) (q : Fin n → Fin 256 → ℝ) (k : Fin 2048 → Fin 256 → ℝ)
    (w : Fin 9 → Fin 8 → ℝ) (h : Fin 8) (i : Fin n) (j : Fin 2048) : ℝ :=
  (∑ x : Fin 32, q i ⟨32 * h + x, by omega⟩ * k j ⟨32 * h + x, by omega⟩) + biasX (d2X a b i j) (sameX a b i j) w h

/-- The call's result: in each head the exponentials against the head's value columns. -/
def attnX {n : ℕ} (a : Fin n → Fin 16 → ℝ) (b : Fin 2048 → Fin 16 → ℝ) (q : Fin n → Fin 256 → ℝ) (k v : Fin 2048 → Fin 256 → ℝ)
    (w : Fin 9 → Fin 8 → ℝ) (i : Fin n) (c : Fin 256) : ℝ :=
  ∑ j, Real.exp (argX a b q k w ⟨c / 32, by omega⟩ i j) * v j c

theorem d2X_pos {n : ℕ} (a : Fin n → Fin 16 → ℝ) (b : Fin 2048 → Fin 16 → ℝ) (i : Fin n) (j : Fin 2048) : 0 < d2X a b i j :=
  add_pos_of_nonneg_of_pos (le_max_right _ _) del_pos

/-- A radial function, factored into the distance's part and the centre's. -/
theorem rbf_factor (D : ℝ) (c : ℕ) : Real.exp (-((D - c * (2 / 7)) ^ 2) * 8)
    = Real.exp (D * (32 / 7)) ^ c * Real.exp (-32 * c ^ 2 / 49) * Real.exp (D ^ 2 * -8) := by
  rw [← Real.exp_nat_mul, ← Real.exp_add, ← Real.exp_add]; congr 1; ring

/-- The bias as the call computes it: powers of one exponential, the centres' exponentials taken into the weights. -/
theorem bias_factor {d2 : ℝ} (hd : 0 < d2) (s : ℝ) (w : Fin 9 → Fin 8 → ℝ) (h : Fin 8) (u e : ℝ)
    (hu : u = Real.exp (Real.sqrt d2 * (32 / 7))) (he : e = Real.exp (d2 * -8)) :
    (u * (w 1 h * Real.exp (-32 / 49)) + u * u * (w 2 h * Real.exp (-128 / 49)) + u * u * u * (w 3 h * Real.exp (-288 / 49))
      + u * u * (u * u) * (w 4 h * Real.exp (-512 / 49)) + u * u * (u * u) * u * (w 5 h * Real.exp (-800 / 49))
      + u * u * (u * u) * (u * u) * (w 6 h * Real.exp (-1152 / 49)) + u * u * (u * u) * (u * u * u) * (w 7 h * Real.exp (-32)) + w 0 h) * e
      + s * w 8 h = biasX d2 s w h := by
  unfold biasX
  rw [Fin.sum_univ_eight]
  simp only [rbf_factor, Real.sq_sqrt hd.le, ← hu, ← he]
  simp
  norm_num
  ring

variable (a : Fin 256 → Fin 16 → ℝ) (b : Fin 2048 → Fin 16 → ℝ) (q : Fin 256 → Fin 256 → ℝ) (k v : Fin 2048 → Fin 256 → ℝ)
variable (i : Fin 256) (j : Fin 2048)

theorem k2_5 : k2_pay5 (F := Ideal) (up2 a) (up2 b) (ix2 i j) = ((d2X a b i j : ℝ) : EReal) := by
  pointwise [k2_pay5, k2_pay3, k2_pay4]
  simp only [up2_apply, ← EReal.coe_mul, coe_sum, c_del, ← EReal.coe_zero, coe_max, ← EReal.coe_add]
  rfl

theorem k2_6 (h : 0 ≤ dcX a b i j) : k2_pay6 (F := Ideal) (up2 a) (up2 b) (ix2 i j) = ((sameX a b i j : ℝ) : EReal) := by
  pointwise [k2_pay6, k2_pay3, k2_pay4]
  simp only [up2_apply, ← EReal.coe_mul, coe_sum, n_decay]
  unfold sameX
  change 0 ≤ ∑ x : Fin 3, _ at h
  unfold dcX
  rcases h.eq_or_lt with h0 | h0
  · rw [← h0, if_pos rfl, EReal.coe_zero, zero_mul, ← EReal.coe_zero, Ideal.exp_coe, Real.exp_zero]
  · rw [EReal.coe_mul_bot_of_pos h0, if_neg h0.ne']
    exact (show Ideal.exp (⊥ : EReal) = 0 from rfl).trans EReal.coe_zero.symm

theorem k2_7 : k2_pay7 (F := Ideal) (up2 a) (up2 b) (ix2 i j) = ((Real.exp (d2X a b i j * -8) : ℝ) : EReal) := by
  pointwise [k2_pay7]
  rw [k2_5, c_neg_eight, ← EReal.coe_mul, Ideal.exp_coe]

/-- The exponential whose powers the radial functions are made of. -/
def uX (d2 : ℝ) : ℝ := Real.exp (Real.sqrt d2 * (32 / 7))

theorem k2_8 : k2_pay8 (F := Ideal) (up2 a) (up2 b) (ix2 i j) = ((uX (d2X a b i j) : ℝ) : EReal) := by
  pointwise [k2_pay8]
  rw [k2_5, n_ratio, sqrt_coe (d2X_pos a b i j).le, ← EReal.coe_mul, Ideal.exp_coe]; rfl

theorem k2_12 : k2_pay12 (F := Ideal) (up2 a) (up2 b) (ix2 i j) = ((uX (d2X a b i j) : ℝ) : EReal) := by
  pointwise [k2_pay12]
  simp only [k2_8, ← EReal.coe_mul]

theorem k2_13 : k2_pay13 (F := Ideal) (up2 a) (up2 b) (ix2 i j)
    = ((uX (d2X a b i j) * uX (d2X a b i j) : ℝ) : EReal) := by
  pointwise [k2_pay13, k2_pay9]
  simp only [k2_8, ← EReal.coe_mul]

theorem k2_14 : k2_pay14 (F := Ideal) (up2 a) (up2 b) (ix2 i j)
    = ((uX (d2X a b i j) * uX (d2X a b i j) * uX (d2X a b i j) : ℝ) : EReal) := by
  pointwise [k2_pay14, k2_pay10, k2_pay9]
  simp only [k2_8, ← EReal.coe_mul]

theorem k2_15 : k2_pay15 (F := Ideal) (up2 a) (up2 b) (ix2 i j)
    = ((uX (d2X a b i j) * uX (d2X a b i j) * (uX (d2X a b i j) * uX (d2X a b i j)) : ℝ) : EReal) := by
  pointwise [k2_pay15, k2_pay11, k2_pay9]
  simp only [k2_8, ← EReal.coe_mul]

theorem k2_16 : k2_pay16 (F := Ideal) (up2 a) (up2 b) (ix2 i j)
    = ((uX (d2X a b i j) * uX (d2X a b i j) * (uX (d2X a b i j) * uX (d2X a b i j)) * uX (d2X a b i j) : ℝ) : EReal) := by
  pointwise [k2_pay16, k2_pay11, k2_pay9]
  simp only [k2_8, ← EReal.coe_mul]

theorem k2_17 : k2_pay17 (F := Ideal) (up2 a) (up2 b) (ix2 i j)
    = ((uX (d2X a b i j) * uX (d2X a b i j) * (uX (d2X a b i j) * uX (d2X a b i j))
        * (uX (d2X a b i j) * uX (d2X a b i j)) : ℝ) : EReal) := by
  pointwise [k2_pay17, k2_pay11, k2_pay9]
  simp only [k2_8, ← EReal.coe_mul]

theorem k2_18 : k2_pay18 (F := Ideal) (up2 a) (up2 b) (ix2 i j)
    = ((uX (d2X a b i j) * uX (d2X a b i j) * (uX (d2X a b i j) * uX (d2X a b i j))
        * (uX (d2X a b i j) * uX (d2X a b i j) * uX (d2X a b i j)) : ℝ) : EReal) := by
  pointwise [k2_pay18, k2_pay11, k2_pay10, k2_pay9]
  simp only [k2_8, ← EReal.coe_mul]

/-- A pair's exponential as the call computes it. -/
theorem exp_arg (hdc : 0 ≤ dcX a b i j) (w : Fin 9 → Fin 8 → ℝ) (h : Fin 8) (s : ℝ) :
    Ideal.exp (max (((s : ℝ) : EReal) +
      ((k2_pay12 (F := Ideal) (up2 a) (up2 b) (ix2 i j) * (((w 1 h : ℝ) : EReal) * Scalar.exp (F := Ideal) (φ := .f32) (Named.named κ "centre1" 3207016197#32))
        + k2_pay13 (F := Ideal) (up2 a) (up2 b) (ix2 i j) * (((w 2 h : ℝ) : EReal) * Scalar.exp (F := Ideal) (φ := .f32) (Named.named κ "centre2" 3223793413#32))
        + k2_pay14 (F := Ideal) (up2 a) (up2 b) (ix2 i j) * (((w 3 h : ℝ) : EReal) * Scalar.exp (F := Ideal) (φ := .f32) (Named.named κ "centre3" 3233551590#32))
        + k2_pay15 (F := Ideal) (up2 a) (up2 b) (ix2 i j) * (((w 4 h : ℝ) : EReal) * Scalar.exp (F := Ideal) (φ := .f32) (Named.named κ "centre4" 3240570629#32))
        + k2_pay16 (F := Ideal) (up2 a) (up2 b) (ix2 i j) * (((w 5 h : ℝ) : EReal) * Scalar.exp (F := Ideal) (φ := .f32) (Named.named κ "centre5" 3246562492#32))
        + k2_pay17 (F := Ideal) (up2 a) (up2 b) (ix2 i j) * (((w 6 h : ℝ) : EReal) * Scalar.exp (F := Ideal) (φ := .f32) (Named.named κ "centre6" 3250328806#32))
        + k2_pay18 (F := Ideal) (up2 a) (up2 b) (ix2 i j) * (((w 7 h : ℝ) : EReal) * Scalar.exp (F := Ideal) (φ := .f32) (Ideal.ofBits .f32 3254779904#32))
        + ((w 0 h : ℝ) : EReal)) * k2_pay7 (F := Ideal) (up2 a) (up2 b) (ix2 i j)
        + k2_pay6 (F := Ideal) (up2 a) (up2 b) (ix2 i j) * ((w 8 h : ℝ) : EReal)))
      (Named.named (F := Ideal) (φ := .f32) κ "floor" 3265265664#32))
    = ((Real.exp (s + biasX (d2X a b i j) (sameX a b i j) w h) : ℝ) : EReal) := by
  rw [k2_12, k2_13, k2_14, k2_15, k2_16, k2_17, k2_18, k2_7, k2_6 a b i j hdc, n_c1, n_c2, n_c3, n_c4, n_c5, n_c6, c_neg_32, n_floor, bot_max]
  simp only [scalar_exp_coe, ← EReal.coe_mul, ← EReal.coe_add, Ideal.exp_coe]
  rw [bias_factor (d2X_pos a b i j) _ w h (uX (d2X a b i j)) _ rfl rfl]

/-- The result at the columns of a head, as the head's payload leaves it. -/
theorem attn_piece (w : Fin 9 → Fin 8 → ℝ) {o : ℕ} (inb : ∀ x, (![0, o] : Fin 2 → ℕ) x + (![256, 32] : Fin 2 → ℕ) x ≤ S256x256.size x)
    (ho : o % 32 = 0) (h8 : o < 256) (r : Fin 256) (l : Fin 32) :
    up2 (attnX a b q k v w) ((Rect.unit (s := S256x256) ![0, o] ![256, 32] inb).emb (ix2 r l))
      = ((∑ j, Real.exp (argX a b q k w ⟨o / 32, by omega⟩ r j) * v j ⟨o + l, by omega⟩ : ℝ) : EReal) := by
  have e : (Rect.unit (s := S256x256) ![0, o] ![256, 32] inb).emb (ix2 r l) = ix2 r ⟨o + l, by omega⟩ := by
    rw [eq_ix2 ((Rect.unit (s := S256x256) ![0, o] ![256, 32] inb).emb (ix2 r l))]
    congr 1 <;> refine Fin.ext ?_
    · rw [ValueKit.rect_emb_unit_val]; exact Nat.zero_add _
    · rw [ValueKit.rect_emb_unit_val]; rfl
  have eh : (⟨(o + l : ℕ) / 32, by omega⟩ : Fin 8) = ⟨o / 32, by omega⟩ := Fin.ext (by show (o + (l : ℕ)) / 32 = o / 32; omega)
  rw [e, up2_apply]
  unfold attnX
  simp only [eh]

set_option maxHeartbeats 4000000 in
/-- What the body leaves in its block of the result, at real operands. -/
theorem out2_A (c : Dev nD) (i : grid2.Coords) (m2 : Memref sig .tc .vmem S256x16 .f32) (h2 : m2.IsWhole)
    (m3 : Memref sig .tc .vmem S2048x16 .f32) (h3 : m3.IsWhole) (m4 : Memref sig .tc .vmem S256x256 .f32) (h4 : m4.IsWhole)
    (m5 : Memref sig .tc .vmem S2048x256 .f32) (h5 : m5.IsWhole) (m6 : Memref sig .tc .vmem S2048x256 .f32) (h6 : m6.IsWhole)
    (m7 : Memref sig .tc .smem S9x8 .f32) (h7 : m7.IsWhole) (m8 : Memref sig .tc .vmem S256x256 .f32) (h8 : m8.IsWhole) (hc0 : cond2_0 i)
    (w : Fin 9 → Fin 8 → ℝ) (hdc : ∀ i j, 0 ≤ dcX a b i j) :
    out2_A_6 (F := Ideal) c i m2 h2 m3 h3 m4 h4 m5 h5 m6 h6 m7 h7 m8 h8 hc0 (up2 a) (up2 b) (up2 q) (up2 k) (up2 v) (up2 w)
      = up2 (attnX a b q k v w) := by
  unfold out2_A_6
  frame_open
  simp (disch := decide) only [↓ View.readCov_skip, ↓ View.readCov_cons_toLoadRect, ↓ View.readCov_fill]
  frame_out
  funext y
  refine View.canon_append_of_piecesOf (Val := Elt Ideal) (e := .f32) (up2 (attnX a b q k v w)) [_] [_, _, _, _, _, _, _, _] ⟨?_, ?_, ?_, ?_, ?_, ?_, ?_, ?_, trivial⟩ y ?_
  case refine_9 => exact View.cover_of_tiledBy _ ![256, 32] (by sl_kernel_rfl) y
  all_goals
    intro x
    obtain ⟨r, l, rfl⟩ : ∃ (r : Fin 256) (l : Fin 32), x = ix2 r l := ⟨x 0, x 1, eq_ix2 x⟩
    refine Eq.trans ?_ (attn_piece a b q k v w (by decide) (by decide) (by decide) r l).symm
    dsimp only
    pointwise [k2_pay1, k2_pay2, k2_pay19, k2_pay20, k2_pay21, k2_pay22, k2_pay23, k2_pay24, k2_pay25, k2_pay26, k2_pay27, k2_pay28,
      k2_pay29, k2_pay30, k2_pay31, k2_pay32, k2_pay33, k2_pay34, k2_pay35, k2_pay36, k2_pay37, k2_pay38, k2_pay39, k2_pay40, k2_pay41,
      k2_pay42, k2_pay43, k2_pay44, k2_pay45, k2_pay46, k2_pay47, k2_pay48, k2_pay49, k2_pay50, k2_pay51, k2_pay52]
    simp only [up2_apply, ← EReal.coe_mul, coe_sum]
    simp only [exp_arg _ _ _ _ (hdc _ _)]
    simp only [← EReal.coe_mul, coe_sum]
    rfl

end Cert.Enc

end
-- ==== Proof.AttnArr.lean ====
/- The attention calls' result arrays at real operands: each grid point writes the block of rows it owns. -/
module

public import proofs.«01_k».proof.Proof.Attn

@[expose] public section

set_option maxRecDepth 16384

noncomputable section

namespace Cert.Enc

open Idealize.ShloMosaic Idealize.ShloMosaic.TcCoe
open Cert.KernelIdeal Cert.KernelIdeal.Gen

/-- Row `r` of the block that point `t` of the grid owns. -/
def row (t : Fin 8) (r : Fin 256) : Fin 2048 := ⟨t * 256 + r, by omega⟩

variable (V : (c : Dev nD) → (b : Ref sig .tc) → Buf (Elt Ideal) ((c : Thread nD τ).loc b)) (c : Dev nD)
variable (A B : Fin 2048 → Fin 16 → ℝ) (Q K W : Fin 2048 → Fin 256 → ℝ) (w : Fin 9 → Fin 8 → ℝ)

theorem idx2_0 : ∀ t : Fin cfg2.N, win2_0.index t = ![t.val, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![t.val, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![t.val, 0] := (by decide +kernel : ∀ t : Fin grid2.N, _)

theorem iblk2_0_eq (h : V c main_v12_1 = up2 A) (t : Fin cfg2.N) : iblk2 V c 0 t = up2 (fun r => A (row t r)) := by
  funext y
  blk_simp [iblk2]
  show V c main_v12_1 _ = _
  rw [h, eq_ix2 y, show (win2_0.blk t).view.emb (ix2 (y 0) (y 1)) = ix2 (row t (y 0)) (y 1) from by blk_ext [idx2_0, row]]
  rfl

theorem iblk2_1_eq (h : V c main_v12_2 = up2 B) (t : Fin cfg2.N) : iblk2 V c 1 t = up2 B := by
  funext y
  blk_simp [iblk2]
  show V c main_v12_2 _ = _
  rw [h, eq_ix2 y, show (win2_1.blk t).view.emb (ix2 (y 0) (y 1)) = ix2 (y 0) (y 1) from by blk_ext [idx2_1, row]]
  rfl

theorem iblk2_2_eq (h : V c main_v21_0 = up2 Q) (t : Fin cfg2.N) : iblk2 V c 2 t = up2 (fun r => Q (row t r)) := by
  funext y
  blk_simp [iblk2]
  show V c main_v21_0 _ = _
  rw [h, eq_ix2 y, show (win2_2.blk t).view.emb (ix2 (y 0) (y 1)) = ix2 (row t (y 0)) (y 1) from by blk_ext [idx2_2, row]]
  rfl

theorem iblk2_3_eq (h : V c main_v21_1 = up2 K) (t : Fin cfg2.N) : iblk2 V c 3 t = up2 K := by
  funext y
  blk_simp [iblk2]
  show V c main_v21_1 _ = _
  rw [h, eq_ix2 y, show (win2_3.blk t).view.emb (ix2 (y 0) (y 1)) = ix2 (y 0) (y 1) from by blk_ext [idx2_3, row]]
  rfl

theorem iblk2_4_eq (h : V c main_v21_2 = up2 W) (t : Fin cfg2.N) : iblk2 V c 4 t = up2 W := by
  funext y
  blk_simp [iblk2]
  show V c main_v21_2 _ = _
  rw [h, eq_ix2 y, show (win2_4.blk t).view.emb (ix2 (y 0) (y 1)) = ix2 (y 0) (y 1) from by blk_ext [idx2_4, row]]
  rfl

theorem iblk2_5_eq (h : V c main_v23 = up2 w) (t : Fin cfg2.N) : iblk2 V c 5 t = up2 w := by
  funext y
  blk_simp [iblk2]
  show V c main_v23 _ = _
  rw [h, eq_ix2 y, show (win2_5.blk t).view.emb (ix2 (y 0) (y 1)) = ix2 (y 0) (y 1) from by blk_ext [idx2_5, row]]
  rfl

/-- The first attention call's result. -/
theorem arr2 (h0 : V c main_v12_1 = up2 A) (h1 : V c main_v12_2 = up2 B) (h2 : V c main_v21_0 = up2 Q) (h3 : V c main_v21_1 = up2 K) (h4 : V c main_v21_2 = up2 W) (h5 : V c main_v23 = up2 w)
    (hdc : ∀ i j, 0 ≤ dcX A B i j) : (dat2 V c).arrAt 6 cfg2.N = up2 (attnX A B Q K W w) := by
  refine (dat2 V c).arrAt_eq_of_covers 6 _ (by decide +kernel) fun t hf y => ?_
  blk_simp
  rw [after2_6]
  unfold outsAt2
  rw [iblk2_0_eq V c A h0, iblk2_1_eq V c B h1, iblk2_2_eq V c Q h2, iblk2_3_eq V c K h3, iblk2_4_eq V c W h4, iblk2_5_eq V c w h5]
  rw [out2_A (fun r => A (row t r)) B (fun r => Q (row t r)) K W _ _ _ _ _ _ _ _ _ _ _ _ _ _ _ _ _ w (fun i j => hdc (row t i) j)]
  rw [eq_ix2 y, show (win2_6.blk t).view.emb (ix2 (y 0) (y 1)) = ix2 (row t (y 0)) (y 1) from by blk_ext [idx2_6, row]]
  rfl

/-- The second attention call's body leaves what the first one's does. -/
theorem out5_eq : @out5_A_6 Ideal _ _ = @out2_A_6 Ideal _ _ := by sl_kernel_rfl

theorem idx5_0 : ∀ t : Fin cfg5.N, win5_0.index t = ![t.val, 0] := (by decide +kernel : ∀ t : Fin grid5.N, _)
theorem idx5_1 : ∀ t : Fin cfg5.N, win5_1.index t = ![0, 0] := (by decide +kernel : ∀ t : Fin grid5.N, _)
theorem idx5_2 : ∀ t : Fin cfg5.N, win5_2.index t = ![t.val, 0] := (by decide +kernel : ∀ t : Fin grid5.N, _)
theorem idx5_3 : ∀ t : Fin cfg5.N, win5_3.index t = ![0, 0] := (by decide +kernel : ∀ t : Fin grid5.N, _)
theorem idx5_4 : ∀ t : Fin cfg5.N, win5_4.index t = ![0, 0] := (by decide +kernel : ∀ t : Fin grid5.N, _)
theorem idx5_5 : ∀ t : Fin cfg5.N, win5_5.index t = ![0, 0] := (by decide +kernel : ∀ t : Fin grid5.N, _)
theorem idx5_6 : ∀ t : Fin cfg5.N, win5_6.index t = ![t.val, 0] := (by decide +kernel : ∀ t : Fin grid5.N, _)

theorem iblk5_0_eq (h : V c main_v12_1 = up2 A) (t : Fin cfg5.N) : iblk5 V c 0 t = up2 (fun r => A (row t r)) := by
  funext y
  blk_simp [iblk5]
  show V c main_v12_1 _ = _
  rw [h, eq_ix2 y, show (win5_0.blk t).view.emb (ix2 (y 0) (y 1)) = ix2 (row t (y 0)) (y 1) from by blk_ext [idx5_0, row]]
  rfl

theorem iblk5_1_eq (h : V c main_v12_2 = up2 B) (t : Fin cfg5.N) : iblk5 V c 1 t = up2 B := by
  funext y
  blk_simp [iblk5]
  show V c main_v12_2 _ = _
  rw [h, eq_ix2 y, show (win5_1.blk t).view.emb (ix2 (y 0) (y 1)) = ix2 (y 0) (y 1) from by blk_ext [idx5_1, row]]
  rfl

theorem iblk5_2_eq (h : V c main_v40_0 = up2 Q) (t : Fin cfg5.N) : iblk5 V c 2 t = up2 (fun r => Q (row t r)) := by
  funext y
  blk_simp [iblk5]
  show V c main_v40_0 _ = _
  rw [h, eq_ix2 y, show (win5_2.blk t).view.emb (ix2 (y 0) (y 1)) = ix2 (row t (y 0)) (y 1) from by blk_ext [idx5_2, row]]
  rfl

theorem iblk5_3_eq (h : V c main_v40_1 = up2 K) (t : Fin cfg5.N) : iblk5 V c 3 t = up2 K := by
  funext y
  blk_simp [iblk5]
  show V c main_v40_1 _ = _
  rw [h, eq_ix2 y, show (win5_3.blk t).view.emb (ix2 (y 0) (y 1)) = ix2 (y 0) (y 1) from by blk_ext [idx5_3, row]]
  rfl

theorem iblk5_4_eq (h : V c main_v40_2 = up2 W) (t : Fin cfg5.N) : iblk5 V c 4 t = up2 W := by
  funext y
  blk_simp [iblk5]
  show V c main_v40_2 _ = _
  rw [h, eq_ix2 y, show (win5_4.blk t).view.emb (ix2 (y 0) (y 1)) = ix2 (y 0) (y 1) from by blk_ext [idx5_4, row]]
  rfl

theorem iblk5_5_eq (h : V c main_v42 = up2 w) (t : Fin cfg5.N) : iblk5 V c 5 t = up2 w := by
  funext y
  blk_simp [iblk5]
  show V c main_v42 _ = _
  rw [h, eq_ix2 y, show (win5_5.blk t).view.emb (ix2 (y 0) (y 1)) = ix2 (y 0) (y 1) from by blk_ext [idx5_5, row]]
  rfl

/-- The second attention call's result. -/
theorem arr5 (h0 : V c main_v12_1 = up2 A) (h1 : V c main_v12_2 = up2 B) (h2 : V c main_v40_0 = up2 Q) (h3 : V c main_v40_1 = up2 K) (h4 : V c main_v40_2 = up2 W) (h5 : V c main_v42 = up2 w)
    (hdc : ∀ i j, 0 ≤ dcX A B i j) : (dat5 V c).arrAt 6 cfg5.N = up2 (attnX A B Q K W w) := by
  refine (dat5 V c).arrAt_eq_of_covers 6 _ (by decide +kernel) fun t hf y => ?_
  blk_simp
  rw [after5_6]
  unfold outsAt5
  rw [iblk5_0_eq V c A h0, iblk5_1_eq V c B h1, iblk5_2_eq V c Q h2, iblk5_3_eq V c K h3, iblk5_4_eq V c W h4, iblk5_5_eq V c w h5]
  rw [out5_eq, out2_A (fun r => A (row t r)) B (fun r => Q (row t r)) K W _ _ _ _ _ _ _ _ _ _ _ _ _ _ _ _ _ w (fun i j => hdc (row t i) j)]
  rw [eq_ix2 y, show (win5_6.blk t).view.emb (ix2 (y 0) (y 1)) = ix2 (row t (y 0)) (y 1) from by blk_ext [idx5_6, row]]
  rfl

end Cert.Enc

end
-- ==== Proof.Prep.lean ====
/- The first call: the residues' first embedding, and the two matrices whose products give distances and chain differences. -/
module

public import proofs.«01_k».proof.Proof.Pre
public import proofs.«01_k».proof.Proof.AttnArr
public import Idealize.ShloMosaic.Lib.WordArith

@[expose] public section

set_option maxRecDepth 16384

noncomputable section

namespace Cert.Enc

open Idealize.ShloMosaic Idealize.ShloMosaic.TcCoe
open Cert.KernelIdeal Cert.KernelIdeal.Gen

/-- An atom's presence. -/
def maskR (x : ℝ) : ℝ := if 1 / 2 < x then 1 else 0

/-- An atom's coordinate relative to the residue's second atom, where it is present. -/
def relS {n : ℕ} (p mk : Fin n → Fin 14 → ℝ) (i : Fin n) (x : Fin 14) : ℝ := (p i x - p i 1) * maskR (mk i x)

/-- The word of a residue's type, kept from 0 to 20. -/
def aaW (x : EReal) : BitVec 32 := IntOp.minsi 20#32 (IntOp.maxsi 0#32 (FloatOps.fptosi (F := Ideal) (φ := .f32) 32 x))

theorem clip_lt (b : BitVec 32) : (IntOp.minsi 20#32 (IntOp.maxsi 0#32 b)).toNat < 21 := by
  have h0 := WordArith.two_mul_toNat_maxsi_zero_lt b
  rw [Scalar.maxsi] at h0
  unfold IntOp.minsi
  split
  · decide
  · rename_i h
    rw [BitVec.slt_iff_toInt_lt] at h
    have e := BitVec.toInt_eq_toNat_cond (IntOp.maxsi 0#32 b)
    have e2 : (20#32 : BitVec 32).toInt = 20 := by decide
    split at e <;> omega

/-- A residue's type. -/
def aaI (x : EReal) : Fin 21 := ⟨(aaW x).toNat, clip_lt _⟩

/-- The first embedding. -/
def h0S (px py pz mk : Fin 2048 → Fin 14 → ℝ) (aa : Fin 2048 → Fin 1 → ℝ) (wx wy wz : Fin 14 → Fin 128 → ℝ) (emb : Fin 21 → Fin 128 → ℝ) (bp : Fin 1 → Fin 128 → ℝ)
    (i : Fin 2048) (j : Fin 128) : ℝ :=
  mm (relS px mk) wx i j + mm (relS py mk) wy i j + mm (relS pz mk) wz i j + emb (aaI (aa i 0 : ℝ)) j + bp 0 j

/-- The square of a residue's position. -/
def n2S (px py pz : Fin 2048 → Fin 14 → ℝ) (i : Fin 2048) : ℝ := px i 1 * px i 1 + py i 1 * py i 1 + pz i 1 * pz i 1

def aS (px py pz : Fin 2048 → Fin 14 → ℝ) (ch : Fin 2048 → Fin 1 → ℝ) (i : Fin 2048) : Fin 16 → ℝ :=
  ![-2 * px i 1, -2 * py i 1, -2 * pz i 1, n2S px py pz i, 1, ch i 0 * ch i 0, -2 * ch i 0, 1, 0, 0, 0, 0, 0, 0, 0, 0]

def bS (px py pz : Fin 2048 → Fin 14 → ℝ) (ch : Fin 2048 → Fin 1 → ℝ) (i : Fin 2048) : Fin 16 → ℝ :=
  ![px i 1, py i 1, pz i 1, 1, n2S px py pz i, 1, ch i 0, ch i 0 * ch i 0, 0, 0, 0, 0, 0, 0, 0, 0]

variable (px py pz mk : Fin 2048 → Fin 14 → ℝ) (aa ch : Fin 2048 → Fin 1 → ℝ) (wx wy wz : Fin 14 → Fin 128 → ℝ) (emb : Fin 21 → Fin 128 → ℝ) (bp : Fin 1 → Fin 128 → ℝ)

theorem dcX_eq (i j : Fin 2048) : dcX (aS px py pz ch) (bS px py pz ch) i j = (ch i 0 - ch j 0) ^ 2 := by
  simp [dcX, Fin.sum_univ_three, aS, bS]; ring

theorem d2X_eq (i j : Fin 2048) : d2X (aS px py pz ch) (bS px py pz ch) i j
    = (px i 1 - px j 1) ^ 2 + (py i 1 - py j 1) ^ 2 + (pz i 1 - pz j 1) ^ 2 + del := by
  have h : (∑ x : Fin 5, aS px py pz ch i ⟨x, by omega⟩ * bS px py pz ch j ⟨x, by omega⟩)
      = (px i 1 - px j 1) ^ 2 + (py i 1 - py j 1) ^ 2 + (pz i 1 - pz j 1) ^ 2 := by
    simp [Fin.sum_univ_five, aS, bS, n2S]; ring
  rw [d2X, h, max_eq_left (by positivity)]

theorem mask_coe (x : ℝ) {hd : Decidable (Ideal.ofBits .f32 0x3F000000#32 < (x : EReal))} :
    (FloatOps.sitofp (F := Ideal) .f32 (BitVec.setWidth 32 (BitVec.ofBool (decide (Ideal.ofBits .f32 0x3F000000#32 < (x : EReal))))) : EReal)
    = ((maskR x : ℝ) : EReal) := by
  have e : (Ideal.ofBits .f32 0x3F000000#32 < (x : EReal)) ↔ 1 / 2 < x := by rw [c_half, EReal.coe_lt_coe_iff]
  rw [bit_coe, maskR]
  congr 1
  by_cases h : 1 / 2 < x
  · rw [decide_eq_true (e.mpr h), if_pos h]; rfl
  · rw [decide_eq_false (fun h' => h (e.mp h')), if_neg h]; rfl

theorem mask_up2 {a b : ℕ} (m : Fin a → Fin b → ℝ) (i : Fin a) (x : Fin b) {hd : Decidable (Ideal.ofBits .f32 0x3F000000#32 < up2 m (ix2 i x))} :
    (FloatOps.sitofp (F := Ideal) .f32 (BitVec.setWidth 32 (BitVec.ofBool (decide (Ideal.ofBits .f32 0x3F000000#32 < up2 m (ix2 i x))))) : EReal)
    = ((maskR (m i x) : ℝ) : EReal) := mask_coe _

theorem one_coe (x : EReal) (j : Fin 21) : (FloatOps.sitofp (F := Ideal) .f32 (BitVec.setWidth 32 (IntOp.cmpi .eq
      (IntOp.minsi 20#32 (IntOp.maxsi 0#32 (FloatOps.fptosi (F := Ideal) (φ := .f32) 32 x))) (BitVec.ofNat 32 j))) : EReal)
    = ((if (j : ℕ) = (aaI x : ℕ) then 1 else 0 : ℝ) : EReal) := by
  have e : IntOp.minsi 20#32 (IntOp.maxsi 0#32 (FloatOps.fptosi (F := Ideal) (φ := .f32) 32 x)) = BitVec.ofNat 32 (aaI x) := by
    simp [aaI, aaW]
  rw [e, sel_coe (by omega) (by omega)]
  congr 1
  exact if_congr eq_comm rfl rfl

theorem out0_11_eq : out0_11 (F := Ideal) (up2 px) (up2 py) (up2 pz) (up2 mk) (up2 aa) (up2 ch) (up2 wx) (up2 wy) (up2 wz) (up2 emb) (up2 bp)
    = up2 (h0S px py pz mk aa wx wy wz emb bp) := by
  refine eq_up2 _ _ fun i j => ?_
  unfold_out out0_11
  frame_out
  pointwise [k0_pay1, k0_pay2, k0_pay3, k0_pay4, k0_pay5, k0_pay6, k0_pay7, k0_pay8, k0_pay9]
  simp only [mask_up2]
  simp only [up2_apply, one_coe, ← EReal.coe_sub, ← EReal.coe_mul, coe_sum, ← EReal.coe_add]
  simp only [mul_comm _ (emb _ _), sum_sel (fun x => emb x j) _ (aaI _).isLt]
  rfl

theorem out0_12_eq : out0_12 (F := Ideal) (up2 px) (up2 py) (up2 pz) (up2 mk) (up2 aa) (up2 ch) (up2 wx) (up2 wy) (up2 wz) (up2 emb) (up2 bp)
    = up2 (aS px py pz ch) := by
  refine eq_up2 _ _ fun i j => ?_
  unfold_out out0_12
  frame_out
  pointwise [k0_pay1, k0_pay2, k0_pay3, k0_pay4, k0_pay5, k0_pay6, k0_pay10, k0_pay11, k0_pay12, k0_pay13, k0_pay14, k0_pay15]
  simp only [up2_apply, c_neg_two, ← EReal.coe_one, ← EReal.coe_zero, ← EReal.coe_mul, ← EReal.coe_add]
  fin_cases j <;> rfl

theorem out0_13_eq : out0_13 (F := Ideal) (up2 px) (up2 py) (up2 pz) (up2 mk) (up2 aa) (up2 ch) (up2 wx) (up2 wy) (up2 wz) (up2 emb) (up2 bp)
    = up2 (bS px py pz ch) := by
  refine eq_up2 _ _ fun i j => ?_
  unfold_out out0_13
  frame_out
  pointwise [k0_pay1, k0_pay2, k0_pay3, k0_pay4, k0_pay5, k0_pay6, k0_pay10, k0_pay11, k0_pay12, k0_pay13, k0_pay14, k0_pay16]
  simp only [up2_apply, c_neg_two, ← EReal.coe_one, ← EReal.coe_zero, ← EReal.coe_mul, ← EReal.coe_add]
  fin_cases j <;> rfl

variable (V : (c : Dev nD) → (b : Ref sig .tc) → Buf (Elt Ideal) ((c : Thread nD τ).loc b)) (c : Dev nD)

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![0, 0] := (by decide +kernel : ∀ t : Fin grid0.N, _)
theorem idx0_12 : ∀ t : Fin cfg0.N, win0_12.index t = ![0, 0] := (by decide +kernel : ∀ t : Fin grid0.N, _)
theorem idx0_13 : ∀ t : Fin cfg0.N, win0_13.index t = ![0, 0] := (by decide +kernel : ∀ t : Fin grid0.N, _)

theorem iblk0_0_eq (e : V c main_v0 = up2 px) (t : Fin cfg0.N) : iblk0 V c 0 t = up2 px := by
  funext y
  blk_simp [iblk0]
  show V c main_v0 _ = _
  rw [e, show (win0_0.blk t).view.emb y = y from by blk_ext [idx0_0]]

theorem iblk0_1_eq (e : V c main_v1 = up2 py) (t : Fin cfg0.N) : iblk0 V c 1 t = up2 py := by
  funext y
  blk_simp [iblk0]
  show V c main_v1 _ = _
  rw [e, show (win0_1.blk t).view.emb y = y from by blk_ext [idx0_1]]

theorem iblk0_2_eq (e : V c main_v2 = up2 pz) (t : Fin cfg0.N) : iblk0 V c 2 t = up2 pz := by
  funext y
  blk_simp [iblk0]
  show V c main_v2 _ = _
  rw [e, show (win0_2.blk t).view.emb y = y from by blk_ext [idx0_2]]

theorem iblk0_3_eq (e : V c main_v3 = up2 mk) (t : Fin cfg0.N) : iblk0 V c 3 t = up2 mk := by
  funext y
  blk_simp [iblk0]
  show V c main_v3 _ = _
  rw [e, show (win0_3.blk t).view.emb y = y from by blk_ext [idx0_3]]

theorem iblk0_4_eq (e : V c main_v4 = up2 aa) (t : Fin cfg0.N) : iblk0 V c 4 t = up2 aa := by
  funext y
  blk_simp [iblk0]
  show V c main_v4 _ = _
  rw [e, show (win0_4.blk t).view.emb y = y from by blk_ext [idx0_4]]

theorem iblk0_5_eq (e : V c main_v7 = up2 ch) (t : Fin cfg0.N) : iblk0 V c 5 t = up2 ch := by
  funext y
  blk_simp [iblk0]
  show V c main_v7 _ = _
  rw [e, show (win0_5.blk t).view.emb y = y from by blk_ext [idx0_5]]

theorem iblk0_6_eq (e : V c main_v8 = up2 wx) (t : Fin cfg0.N) : iblk0 V c 6 t = up2 wx := by
  funext y
  blk_simp [iblk0]
  show V c main_v8 _ = _
  rw [e, show (win0_6.blk t).view.emb y = y from by blk_ext [idx0_6]]

theorem iblk0_7_eq (e : V c main_v9 = up2 wy) (t : Fin cfg0.N) : iblk0 V c 7 t = up2 wy := by
  funext y
  blk_simp [iblk0]
  show V c main_v9 _ = _
  rw [e, show (win0_7.blk t).view.emb y = y from by blk_ext [idx0_7]]

theorem iblk0_8_eq (e : V c main_v10 = up2 wz) (t : Fin cfg0.N) : iblk0 V c 8 t = up2 wz := by
  funext y
  blk_simp [iblk0]
  show V c main_v10 _ = _
  rw [e, show (win0_8.blk t).view.emb y = y from by blk_ext [idx0_8]]

theorem iblk0_9_eq (e : V c main_arg3 = up2 emb) (t : Fin cfg0.N) : iblk0 V c 9 t = up2 emb := by
  funext y
  blk_simp [iblk0]
  show V c main_arg3 _ = _
  rw [e, show (win0_9.blk t).view.emb y = y from by blk_ext [idx0_9]]

theorem iblk0_10_eq (e : V c main_v11 = up2 bp) (t : Fin cfg0.N) : iblk0 V c 10 t = up2 bp := by
  funext y
  blk_simp [iblk0]
  show V c main_v11 _ = _
  rw [e, show (win0_10.blk t).view.emb y = y from by blk_ext [idx0_10]]

theorem arr0_11 (e0 : V c main_v0 = up2 px) (e1 : V c main_v1 = up2 py) (e2 : V c main_v2 = up2 pz) (e3 : V c main_v3 = up2 mk) (e4 : V c main_v4 = up2 aa) (e5 : V c main_v7 = up2 ch) (e6 : V c main_v8 = up2 wx) (e7 : V c main_v9 = up2 wy) (e8 : V c main_v10 = up2 wz) (e9 : V c main_arg3 = up2 emb) (e10 : V c main_v11 = up2 bp) :
    (dat0 V c).arrAt 11 cfg0.N = up2 (h0S px py pz mk aa wx wy wz emb bp) := by
  refine (dat0 V c).arrAt_eq_of_covers 11 _ (by decide +kernel) fun t hf y => ?_
  blk_simp
  rw [after0_11, iblk0_0_eq px V c e0, iblk0_1_eq py V c e1, iblk0_2_eq pz V c e2, iblk0_3_eq mk V c e3, iblk0_4_eq aa V c e4, iblk0_5_eq ch V c e5, iblk0_6_eq wx V c e6, iblk0_7_eq wy V c e7, iblk0_8_eq wz V c e8, iblk0_9_eq emb V c e9, iblk0_10_eq bp V c e10, out0_11_eq,
    show (win0_11.blk t).view.emb y = y from by blk_ext [idx0_11]]

theorem arr0_12 (e0 : V c main_v0 = up2 px) (e1 : V c main_v1 = up2 py) (e2 : V c main_v2 = up2 pz) (e3 : V c main_v3 = up2 mk) (e4 : V c main_v4 = up2 aa) (e5 : V c main_v7 = up2 ch) (e6 : V c main_v8 = up2 wx) (e7 : V c main_v9 = up2 wy) (e8 : V c main_v10 = up2 wz) (e9 : V c main_arg3 = up2 emb) (e10 : V c main_v11 = up2 bp) :
    (dat0 V c).arrAt 12 cfg0.N = up2 (aS px py pz ch) := by
  refine (dat0 V c).arrAt_eq_of_covers 12 _ (by decide +kernel) fun t hf y => ?_
  blk_simp
  rw [after0_12, iblk0_0_eq px V c e0, iblk0_1_eq py V c e1, iblk0_2_eq pz V c e2, iblk0_3_eq mk V c e3, iblk0_4_eq aa V c e4, iblk0_5_eq ch V c e5, iblk0_6_eq wx V c e6, iblk0_7_eq wy V c e7, iblk0_8_eq wz V c e8, iblk0_9_eq emb V c e9, iblk0_10_eq bp V c e10, out0_12_eq,
    show (win0_12.blk t).view.emb y = y from by blk_ext [idx0_12]]

theorem arr0_13 (e0 : V c main_v0 = up2 px) (e1 : V c main_v1 = up2 py) (e2 : V c main_v2 = up2 pz) (e3 : V c main_v3 = up2 mk) (e4 : V c main_v4 = up2 aa) (e5 : V c main_v7 = up2 ch) (e6 : V c main_v8 = up2 wx) (e7 : V c main_v9 = up2 wy) (e8 : V c main_v10 = up2 wz) (e9 : V c main_arg3 = up2 emb) (e10 : V c main_v11 = up2 bp) :
    (dat0 V c).arrAt 13 cfg0.N = up2 (bS px py pz ch) := by
  refine (dat0 V c).arrAt_eq_of_covers 13 _ (by decide +kernel) fun t hf y => ?_
  blk_simp
  rw [after0_13, iblk0_0_eq px V c e0, iblk0_1_eq py V c e1, iblk0_2_eq pz V c e2, iblk0_3_eq mk V c e3, iblk0_4_eq aa V c e4, iblk0_5_eq ch V c e5, iblk0_6_eq wx V c e6, iblk0_7_eq wy V c e7, iblk0_8_eq wz V c e8, iblk0_9_eq emb V c e9, iblk0_10_eq bp V c e10, out0_13_eq,
    show (win0_13.blk t).view.emb y = y from by blk_ext [idx0_13]]

end Cert.Enc

end
-- ==== Proof.Layer.lean ====
/- The attention call's result between the layout by heads and the projection is the softmax average. -/
module

public import proofs.«01_k».proof.Proof.AttnArr
public import proofs.«01_k».proof.Proof.Pre

@[expose] public section

noncomputable section

namespace Cert.Enc

variable (A B : Fin 2048 → Fin 16 → ℝ) (q k v : Fin 2048 → Fin 128 → ℝ) (z : Fin 2048 → Fin 8 → ℝ) (w : Fin 9 → Fin 8 → ℝ)

/-- A pair's bias in a head, as the call forms it. -/
def pX (h : Fin 8) (i j : Fin 2048) : ℝ := biasX (d2X A B i j) (sameX A B i j) w h

theorem ext_lo {n : ℕ} (f : Fin n → Fin 128 → ℝ) (s : ℝ) (z : Fin n → Fin 8 → ℝ) (i : Fin n) (c : Fin 256) (y : Fin 128) (h : (c : ℕ) % 32 < 16)
    (e : (y : ℕ) = 16 * (c / 32) + c % 32) : extS f s z i c = f i y * s := by
  rw [extS, if_pos h, if_neg (by omega), add_zero]
  congr 2
  exact Fin.ext (by simp only [e]; omega)

theorem ext_mid {n : ℕ} (f : Fin n → Fin 128 → ℝ) (s : ℝ) (z : Fin n → Fin 8 → ℝ) (i : Fin n) (c : Fin 256) (h : (c : ℕ) % 32 = 16) :
    extS f s z i c = z i ⟨c / 32, by omega⟩ := by
  rw [extS, if_neg (by omega), if_pos h, zero_add]

theorem ext_hi {n : ℕ} (f : Fin n → Fin 128 → ℝ) (s : ℝ) (z : Fin n → Fin 8 → ℝ) (i : Fin n) (c : Fin 256) (h : 16 < (c : ℕ) % 32) :
    extS f s z i c = 0 := by
  rw [extS, if_neg (by omega), if_neg (by omega), zero_add]

/-- The product of a query's and a key's columns: the queries' and keys' product, less the given number. -/
theorem ext_dot (h : Fin 8) (i j : Fin 2048) :
    ∑ x : Fin 32, extS q (1 / 4) z i ⟨32 * h + x, by omega⟩ * extS k 1 (fun _ _ => -1) j ⟨32 * h + x, by omega⟩
      = (∑ d : Fin 16, q i ⟨16 * h + d, by omega⟩ * k j ⟨16 * h + d, by omega⟩) / 4 - z i h := by
  rw [Fin.sum_univ_add (a := 16) (b := 16), sub_eq_add_neg, Finset.sum_div]
  congr 1
  · refine Finset.sum_congr rfl fun d _ => ?_
    have hd : ((Fin.castAdd 16 d : Fin 32) : ℕ) = d := rfl
    rw [ext_lo q _ _ _ _ ⟨16 * h + d, by omega⟩ (by simp only [hd]; omega) (by simp only [hd]; omega),
      ext_lo k _ _ _ _ ⟨16 * h + d, by omega⟩ (by simp only [hd]; omega) (by simp only [hd]; omega)]
    ring
  · rw [Fin.sum_univ_succ, Finset.sum_eq_zero, add_zero]
    · rw [ext_mid _ _ _ _ _ (by simp only [Fin.val_natAdd, Fin.val_zero]; omega), ext_mid _ _ _ _ _ (by simp only [Fin.val_natAdd, Fin.val_zero]; omega), mul_neg_one]
      congr 2
      exact Fin.ext (by simp only [Fin.val_natAdd, Fin.val_zero]; omega)
    · intro d _
      rw [ext_hi _ _ _ _ _ (by simp only [Fin.val_natAdd, Fin.val_succ]; omega), zero_mul]

theorem arg_eq (h : Fin 8) (i j : Fin 2048) :
    argX A B (extS q (1 / 4) z) (extS k 1 fun _ _ => -1) w h i j = logitS q k (pX A B w) h i j - z i h := by
  rw [argX, ext_dot, logitS, pX]; ring

/-- The call's sum of weights is positive. -/
theorem den_ne (i : Fin 2048) (j : Fin 128) :
    attnX A B (extS q (1 / 4) z) (extS k 1 fun _ _ => -1) (extS v 1 fun _ _ => 1) w i ⟨32 * (j / 16) + 16, by omega⟩ ≠ 0 := by
  refine (Finset.sum_pos (fun y _ => ?_) ⟨0, Finset.mem_univ _⟩).ne'
  rw [ext_mid _ _ _ _ _ (by dsimp only; omega), mul_one]
  exact Real.exp_pos _

/-- Numerators over denominators: the softmax average. -/
theorem oX_attn : oX (attnX A B (extS q (1 / 4) z) (extS k 1 fun _ _ => -1) (extS v 1 fun _ _ => 1) w) = attS q k v (pX A B w) := by
  funext i j
  have e1 : (⟨(32 * ((j : ℕ) / 16) + j % 16) / 32, by omega⟩ : Fin 8) = ⟨j / 16, by omega⟩ := Fin.ext (by dsimp only; omega)
  have e2 : (⟨(32 * ((j : ℕ) / 16) + 16) / 32, by omega⟩ : Fin 8) = ⟨j / 16, by omega⟩ := Fin.ext (by dsimp only; omega)
  have hv (y : Fin 2048) : extS v 1 (fun _ _ => 1) y ⟨32 * (j / 16) + j % 16, by omega⟩ = v y j := by
    rw [ext_lo _ _ _ _ _ j (by dsimp only; omega) (by dsimp only; omega), mul_one]
  have h1 (y : Fin 2048) : extS v 1 (fun _ _ => 1) y ⟨32 * (j / 16) + 16, by omega⟩ = 1 :=
    ext_mid _ _ _ _ _ (by dsimp only; omega)
  simp only [oX, attnX, hv, h1, e1, e2, arg_eq, mul_one]
  exact softmax_shift _ _ _

end Cert.Enc

end
-- ==== Proof.Params.lean ====
/- The arguments as arrays of reals, and the encoder on them. -/
module

public import proofs.«01_k».proof.Proof.Prep
public import proofs.«01_k».proof.Proof.Layer

@[expose] public section

noncomputable section

namespace Cert.Enc

open Idealize.ShloMosaic

/-- The eleven arguments that are read, as arrays of reals. -/
structure Par where
  x : Fin 2048 → Fin 59 → ℝ
  emb : Fin 21 → Fin 128 → ℝ
  wpos : Fin 42 → Fin 128 → ℝ
  bpos : Fin 128 → ℝ
  wq : Fin 2 → Fin 128 → Fin 128 → ℝ
  wk : Fin 2 → Fin 128 → Fin 128 → ℝ
  wv : Fin 2 → Fin 128 → Fin 128 → ℝ
  wo : Fin 2 → Fin 128 → Fin 128 → ℝ
  wpair : Fin 2 → Fin 9 → Fin 8 → ℝ
  w1 : Fin 2 → Fin 128 → Fin 256 → ℝ
  w2 : Fin 2 → Fin 256 → Fin 128 → ℝ

/-- A number cut to a word, as a real. -/
def chR (x : EReal) : ℝ := ((FloatOps.fptosi (F := Ideal) (φ := .f32) 32 x).toInt : ℝ)

namespace Par

variable (P : Par)

/-- The k-th coordinates of a residue's atoms. -/
def pos (k : Fin 3) (i : Fin 2048) (a : Fin 14) : ℝ := P.x i ⟨k + 3 * a, by omega⟩

def mask (i : Fin 2048) (a : Fin 14) : ℝ := P.x i ⟨45 + a, by omega⟩

/-- A residue's type. -/
def aa (i : Fin 2048) (_ : Fin 1) : ℝ := P.x i 42

/-- A residue's chain. -/
def ch (i : Fin 2048) (_ : Fin 1) : ℝ := chR (P.x i 44 : ℝ)

/-- The position weights of the atoms' k-th coordinates. -/
def wp (k : Fin 3) (a : Fin 14) (j : Fin 128) : ℝ := P.wpos ⟨k + 3 * a, by omega⟩ j

def bp (_ : Fin 1) (j : Fin 128) : ℝ := P.bpos j

def h0 : Fin 2048 → Fin 128 → ℝ := h0S (P.pos 0) (P.pos 1) (P.pos 2) P.mask P.aa (P.wp 0) (P.wp 1) (P.wp 2) P.emb P.bp

def A : Fin 2048 → Fin 16 → ℝ := aS (P.pos 0) (P.pos 1) (P.pos 2) P.ch

def B : Fin 2048 → Fin 16 → ℝ := bS (P.pos 0) (P.pos 1) (P.pos 2) P.ch

/-- A pair's bias in a layer's head. -/
def pair (l : Fin 2) : Fin 8 → Fin 2048 → Fin 2048 → ℝ := pX P.A P.B (P.wpair l)

def layer (l : Fin 2) (h : Fin 2048 → Fin 128 → ℝ) : Fin 2048 → Fin 128 → ℝ :=
  layerS h (P.pair l) (P.wq l) (P.wk l) (P.wv l) (P.wo l) (P.w1 l) (P.w2 l)

/-- The encoder. -/
def enc : Fin 2048 → Fin 128 → ℝ := P.layer 1 (P.layer 0 P.h0)

theorem dc_nonneg (i j : Fin 2048) : 0 ≤ dcX P.A P.B i j := by
  rw [A, B, dcX_eq]; positivity

end Par

end Cert.Enc

end
-- ==== Proof.Host.lean ====
/- The kernel program's result at real arguments: its calls' results, through the operations between them. -/
module

public import proofs.«01_k».proof.Proof.Params
public import Idealize.ShloMosaic.Lib.StableHlo.Run

@[expose] public section

noncomputable section

namespace Cert.Enc

open Idealize.ShloMosaic Idealize.ShloMosaic.TcCoe Cert.KernelIdeal Cert.KernelIdeal.Gen

/-- The buffers' contents are these at the arguments that are read. -/
structure Holds (P : Par) (V : Valuation τ sig (Elt Ideal)) : Prop where
  x : V (Proc.devRef .tc main_arg0) = up2 P.x
  emb : V (Proc.devRef .tc main_arg3) = up2 P.emb
  wpos : V (Proc.devRef .tc main_arg4) = up2 P.wpos
  bpos : V (Proc.devRef .tc main_arg5) = up1 P.bpos
  wq : V (Proc.devRef .tc main_arg6) = up3 P.wq
  wk : V (Proc.devRef .tc main_arg7) = up3 P.wk
  wv : V (Proc.devRef .tc main_arg8) = up3 P.wv
  wo : V (Proc.devRef .tc main_arg9) = up3 P.wo
  wpair : V (Proc.devRef .tc main_arg10) = up3 P.wpair
  w1 : V (Proc.devRef .tc main_arg11) = up3 P.w1
  w2 : V (Proc.devRef .tc main_arg12) = up3 P.w2

variable {P : Par} {V : Valuation τ sig (Elt Ideal)}

theorem Holds.of_eq (h : Holds P V) {W : Valuation τ sig (Elt Ideal)} (e : ∀ a ∈ argRefs, W (Proc.devRef .tc a) = V (Proc.devRef .tc a)) : Holds P W where
  x := (e _ (by decide)).trans h.x
  emb := (e _ (by decide)).trans h.emb
  wpos := (e _ (by decide)).trans h.wpos
  bpos := (e _ (by decide)).trans h.bpos
  wq := (e _ (by decide)).trans h.wq
  wk := (e _ (by decide)).trans h.wk
  wv := (e _ (by decide)).trans h.wv
  wo := (e _ (by decide)).trans h.wo
  wpair := (e _ (by decide)).trans h.wpair
  w1 := (e _ (by decide)).trans h.w1
  w2 := (e _ (by decide)).trans h.w2

/-! ## The operations between the calls -/

theorem pos_cut (x : Fin 2048 → Fin 59 → ℝ) (k : Fin 3) {h : S2048x59.SlicesBy ![0, (k : ℕ)] ![1, 3] S2048x14} :
    Host.slice S2048x14 ![0, (k : ℕ)] ![1, 3] (up2 x) h = up2 fun i (a : Fin 14) => x i ⟨k + 3 * a, by omega⟩ := by
  refine eq_up2 _ _ fun i j => ?_
  pointwise
  rw [up2_apply]

theorem wp_cut (x : Fin 42 → Fin 128 → ℝ) (k : Fin 3) {h : S42x128.SlicesBy ![(k : ℕ), 0] ![3, 1] S14x128} :
    Host.slice S14x128 ![(k : ℕ), 0] ![3, 1] (up2 x) h = up2 fun (a : Fin 14) j => x ⟨k + 3 * a, by omega⟩ j := by
  refine eq_up2 _ _ fun i j => ?_
  pointwise
  rw [up2_apply]

variable (h : Holds P V)
include h

theorem host0 :
    StableHlo.after hostOps0 V (Proc.devRef .tc main_v0) = up2 (P.pos 0) ∧ StableHlo.after hostOps0 V (Proc.devRef .tc main_v1) = up2 (P.pos 1)
    ∧ StableHlo.after hostOps0 V (Proc.devRef .tc main_v2) = up2 (P.pos 2) ∧ StableHlo.after hostOps0 V (Proc.devRef .tc main_v3) = up2 P.mask
    ∧ StableHlo.after hostOps0 V (Proc.devRef .tc main_v4) = up2 P.aa ∧ StableHlo.after hostOps0 V (Proc.devRef .tc main_v7) = up2 P.ch
    ∧ StableHlo.after hostOps0 V (Proc.devRef .tc main_v8) = up2 (P.wp 0) ∧ StableHlo.after hostOps0 V (Proc.devRef .tc main_v9) = up2 (P.wp 1)
    ∧ StableHlo.after hostOps0 V (Proc.devRef .tc main_v10) = up2 (P.wp 2) ∧ StableHlo.after hostOps0 V (Proc.devRef .tc main_v11) = up2 P.bp := by
  refine ⟨?_, ?_, ?_, ?_, ?_, ?_, ?_, ?_, ?_, ?_⟩ <;> after_results
  · rw [h.x]; exact pos_cut P.x 0
  · rw [h.x]; exact pos_cut P.x 1
  · rw [h.x]; exact pos_cut P.x 2
  · rw [h.x]; funext y; rw [eq_ix2 y]; pointwise; rfl
  · rw [h.x]; funext y; rw [eq_ix2 y]; pointwise; rfl
  · rw [h.x]; funext y; rw [eq_ix2 y]; pointwise; rfl
  · rw [h.wpos]; exact wp_cut P.wpos 0
  · rw [h.wpos]; exact wp_cut P.wpos 1
  · rw [h.wpos]; exact wp_cut P.wpos 2
  · rw [h.bpos]; funext y; rw [eq_ix2 y]; pointwise; rfl

theorem host1 :
    StableHlo.after hostOps1 V (Proc.devRef .tc main_v14) = up2 (P.wq 0) ∧ StableHlo.after hostOps1 V (Proc.devRef .tc main_v16) = up2 (P.wk 0)
    ∧ StableHlo.after hostOps1 V (Proc.devRef .tc main_v18) = up2 (P.wv 0) ∧ StableHlo.after hostOps1 V (Proc.devRef .tc main_v20) = up2 (P.wpair 0) := by
  refine ⟨?_, ?_, ?_, ?_⟩ <;> after_results
  · rw [h.wq]; funext y; rw [eq_ix2 y]; pointwise; rfl
  · rw [h.wk]; funext y; rw [eq_ix2 y]; pointwise; rfl
  · rw [h.wv]; funext y; rw [eq_ix2 y]; pointwise; rfl
  · rw [h.wpair]; funext y; rw [eq_ix2 y]; pointwise; rfl

theorem host2 : StableHlo.after hostOps2 V (Proc.devRef .tc main_v23) = up2 (P.wpair 0) := by
  after_results
  rw [h.wpair]; funext y; rw [eq_ix2 y]; pointwise; rfl

theorem host3 :
    StableHlo.after hostOps3 V (Proc.devRef .tc main_v26) = up2 (P.wo 0) ∧ StableHlo.after hostOps3 V (Proc.devRef .tc main_v28) = up2 (P.w1 0)
    ∧ StableHlo.after hostOps3 V (Proc.devRef .tc main_v30) = up2 (P.w2 0) := by
  refine ⟨?_, ?_, ?_⟩ <;> after_results
  · rw [h.wo]; funext y; rw [eq_ix2 y]; pointwise; rfl
  · rw [h.w1]; funext y; rw [eq_ix2 y]; pointwise; rfl
  · rw [h.w2]; funext y; rw [eq_ix2 y]; pointwise; rfl

theorem host4 :
    StableHlo.after hostOps4 V (Proc.devRef .tc main_v33) = up2 (P.wq 1) ∧ StableHlo.after hostOps4 V (Proc.devRef .tc main_v35) = up2 (P.wk 1)
    ∧ StableHlo.after hostOps4 V (Proc.devRef .tc main_v37) = up2 (P.wv 1) ∧ StableHlo.after hostOps4 V (Proc.devRef .tc main_v39) = up2 (P.wpair 1) := by
  refine ⟨?_, ?_, ?_, ?_⟩ <;> after_results
  · rw [h.wq]; funext y; rw [eq_ix2 y]; pointwise; rfl
  · rw [h.wk]; funext y; rw [eq_ix2 y]; pointwise; rfl
  · rw [h.wv]; funext y; rw [eq_ix2 y]; pointwise; rfl
  · rw [h.wpair]; funext y; rw [eq_ix2 y]; pointwise; rfl

theorem host5 : StableHlo.after hostOps5 V (Proc.devRef .tc main_v42) = up2 (P.wpair 1) := by
  after_results
  rw [h.wpair]; funext y; rw [eq_ix2 y]; pointwise; rfl

theorem host6 :
    StableHlo.after hostOps6 V (Proc.devRef .tc main_v45) = up2 (P.wo 1) ∧ StableHlo.after hostOps6 V (Proc.devRef .tc main_v47) = up2 (P.w1 1)
    ∧ StableHlo.after hostOps6 V (Proc.devRef .tc main_v49) = up2 (P.w2 1) := by
  refine ⟨?_, ?_, ?_⟩ <;> after_results
  · rw [h.wo]; funext y; rw [eq_ix2 y]; pointwise; rfl
  · rw [h.w1]; funext y; rw [eq_ix2 y]; pointwise; rfl
  · rw [h.w2]; funext y; rw [eq_ix2 y]; pointwise; rfl

omit h in
theorem host7 (H : Fin 2048 → Fin 128 → ℝ) (e : V (Proc.devRef .tc main_v50) = up2 H) :
    StableHlo.after hostOps7 V (Proc.devRef .tc main_v51) = up3 fun _ : Fin 1 => H := by
  after_results
  rw [e]; funext y; rw [eq_ix3 y]; pointwise; rfl

end Cert.Enc

end
-- ==== Proof.Chain.lean ====
/- The kernel program's result at real arguments: its calls' results, one after the other. -/
module

public import proofs.«01_k».proof.Proof.Host

@[expose] public section

noncomputable section

namespace Cert.Enc

open Idealize.ShloMosaic Idealize.ShloMosaic.TcCoe Cert.KernelIdeal Cert.KernelIdeal.Gen

variable {P : Par} {m : (ℓ : Loc nD τ sig) → Buf (Elt Ideal) ℓ} {ρ : Dev nD → PrngReg} {c : Dev nD} (h : Holds P (W0 m ρ c))
include h

theorem holds2 : Holds P (W2 m ρ c) := h.of_eq fun a ha => W2_args m ρ c a ha
theorem holds4 : Holds P (W4 m ρ c) := h.of_eq fun a ha => W4_args m ρ c a ha
theorem holds6 : Holds P (W6 m ρ c) := h.of_eq fun a ha => W6_args m ρ c a ha
theorem holds8 : Holds P (W8 m ρ c) := h.of_eq fun a ha => W8_args m ρ c a ha
theorem holds10 : Holds P (W10 m ρ c) := h.of_eq fun a ha => W10_args m ρ c a ha
theorem holds12 : Holds P (W12 m ρ c) := h.of_eq fun a ha => W12_args m ρ c a ha

/-! ## The first call -/

theorem w1_emb : W1 m ρ c (Proc.devRef .tc main_arg3) = up2 P.emb := (W1_args m ρ c main_arg3 (by decide)).trans h.emb

theorem w2_h : W2 m ρ c (Proc.devRef .tc main_v12_0) = up2 P.h0 := by
  obtain ⟨e0, e1, e2, e3, e4, e5, e6, e7, e8, e10⟩ := host0 h
  exact (W2_arr m ρ c 11).trans (arr0_11 _ _ _ _ _ P.ch _ _ _ _ _ (V1 m ρ) c e0 e1 e2 e3 e4 e5 e6 e7 e8 (w1_emb h) e10)

theorem w2_a : W2 m ρ c (Proc.devRef .tc main_v12_1) = up2 P.A := by
  obtain ⟨e0, e1, e2, e3, e4, e5, e6, e7, e8, e10⟩ := host0 h
  exact (W2_arr m ρ c 12).trans (arr0_12 _ _ _ _ _ _ _ _ _ _ _ (V1 m ρ) c e0 e1 e2 e3 e4 e5 e6 e7 e8 (w1_emb h) e10)

theorem w2_b : W2 m ρ c (Proc.devRef .tc main_v12_2) = up2 P.B := by
  obtain ⟨e0, e1, e2, e3, e4, e5, e6, e7, e8, e10⟩ := host0 h
  exact (W2_arr m ρ c 13).trans (arr0_13 _ _ _ _ _ _ _ _ _ _ _ (V1 m ρ) c e0 e1 e2 e3 e4 e5 e6 e7 e8 (w1_emb h) e10)

theorem w3_h : W3 m ρ c (Proc.devRef .tc main_v12_0) = up2 P.h0 := (W3_of m ρ c main_v12_0 (by decide)).trans (w2_h h)

theorem w5_a : W5 m ρ c (Proc.devRef .tc main_v12_1) = up2 P.A :=
  (W5_of m ρ c main_v12_1 (by decide)).trans ((W4_of m ρ c main_v12_1 (by decide)).trans ((W3_of m ρ c main_v12_1 (by decide)).trans (w2_a h)))

theorem w5_b : W5 m ρ c (Proc.devRef .tc main_v12_2) = up2 P.B :=
  (W5_of m ρ c main_v12_2 (by decide)).trans ((W4_of m ρ c main_v12_2 (by decide)).trans ((W3_of m ρ c main_v12_2 (by decide)).trans (w2_b h)))

theorem w7_h : W7 m ρ c (Proc.devRef .tc main_v12_0) = up2 P.h0 :=
  (W7_of m ρ c main_v12_0 (by decide)).trans ((W6_of m ρ c main_v12_0 (by decide)).trans ((W5_of m ρ c main_v12_0 (by decide)).trans ((W4_of m ρ c main_v12_0 (by decide)).trans (w3_h h))))

theorem w11_a : W11 m ρ c (Proc.devRef .tc main_v12_1) = up2 P.A :=
  (W11_of m ρ c main_v12_1 (by decide)).trans ((W10_of m ρ c main_v12_1 (by decide)).trans ((W9_of m ρ c main_v12_1 (by decide)).trans
    ((W8_of m ρ c main_v12_1 (by decide)).trans ((W7_of m ρ c main_v12_1 (by decide)).trans ((W6_of m ρ c main_v12_1 (by decide)).trans (w5_a h))))))

theorem w11_b : W11 m ρ c (Proc.devRef .tc main_v12_2) = up2 P.B :=
  (W11_of m ρ c main_v12_2 (by decide)).trans ((W10_of m ρ c main_v12_2 (by decide)).trans ((W9_of m ρ c main_v12_2 (by decide)).trans
    ((W8_of m ρ c main_v12_2 (by decide)).trans ((W7_of m ρ c main_v12_2 (by decide)).trans ((W6_of m ρ c main_v12_2 (by decide)).trans (w5_b h))))))

/-! ## The first layer -/

/-- The first attention call's result, at some numbers taken off the queries' products. -/
theorem w6_acc : ∃ z, W6 m ρ c (Proc.devRef .tc main_v24)
    = up2 (attnX P.A P.B (extS (mm (lnS P.h0) (P.wq 0)) (1 / 4) z) (extS (mm (lnS P.h0) (P.wk 0)) 1 fun _ _ => -1)
        (extS (mm (lnS P.h0) (P.wv 0)) 1 fun _ _ => 1) (P.wpair 0)) := by
  obtain ⟨e1, e2, e3, e4⟩ := host1 (holds2 h)
  obtain ⟨z, hz⟩ := arr1_5 P.h0 _ _ _ _ c (V3 m ρ) (w3_h h) e1 e2 e3 e4
  have hk := arr1_6 P.h0 _ _ _ _ c (V3 m ρ) (w3_h h) e1 e2 e3 e4
  have hv := arr1_7 P.h0 _ _ _ _ c (V3 m ρ) (w3_h h) e1 e2 e3 e4
  exact ⟨z, (W6_arr m ρ c 6).trans (arr2 (V5 m ρ) c _ _ _ _ _ _ (w5_a h) (w5_b h)
    ((W5_of m ρ c main_v21_0 (by decide)).trans ((W4_arr m ρ c 5).trans hz)) ((W5_of m ρ c main_v21_1 (by decide)).trans ((W4_arr m ρ c 6).trans hk))
    ((W5_of m ρ c main_v21_2 (by decide)).trans ((W4_arr m ρ c 7).trans hv)) (host2 (holds4 h)) P.dc_nonneg)⟩

theorem w8_h : W8 m ρ c (Proc.devRef .tc main_v31) = up2 (P.layer 0 P.h0) := by
  obtain ⟨z, hz⟩ := w6_acc h
  obtain ⟨e1, e2, e3⟩ := host3 (holds6 h)
  have e := arr3 _ P.h0 _ _ _ (V7 m ρ) c ((W7_of m ρ c main_v24 (by decide)).trans hz) (w7_h h) e1 e2 e3 (den_ne _ _ _ _ _ _ _)
  rw [oX_attn] at e
  exact (W8_arr m ρ c 5).trans e

/-! ## The second layer -/

theorem w9_h : W9 m ρ c (Proc.devRef .tc main_v31) = up2 (P.layer 0 P.h0) := (W9_of m ρ c main_v31 (by decide)).trans (w8_h h)

theorem w13_h : W13 m ρ c (Proc.devRef .tc main_v31) = up2 (P.layer 0 P.h0) :=
  (W13_of m ρ c main_v31 (by decide)).trans ((W12_of m ρ c main_v31 (by decide)).trans ((W11_of m ρ c main_v31 (by decide)).trans ((W10_of m ρ c main_v31 (by decide)).trans (w9_h h))))

theorem w12_acc : ∃ z, W12 m ρ c (Proc.devRef .tc main_v43)
    = up2 (attnX P.A P.B (extS (mm (lnS (P.layer 0 P.h0)) (P.wq 1)) (1 / 4) z) (extS (mm (lnS (P.layer 0 P.h0)) (P.wk 1)) 1 fun _ _ => -1)
        (extS (mm (lnS (P.layer 0 P.h0)) (P.wv 1)) 1 fun _ _ => 1) (P.wpair 1)) := by
  obtain ⟨e1, e2, e3, e4⟩ := host4 (holds8 h)
  obtain ⟨z, hz⟩ := arr4_5 (P.layer 0 P.h0) _ _ _ _ c (V9 m ρ) (w9_h h) e1 e2 e3 e4
  have hk := arr4_6 (P.layer 0 P.h0) _ _ _ _ c (V9 m ρ) (w9_h h) e1 e2 e3 e4
  have hv := arr4_7 (P.layer 0 P.h0) _ _ _ _ c (V9 m ρ) (w9_h h) e1 e2 e3 e4
  exact ⟨z, (W12_arr m ρ c 6).trans (arr5 (V11 m ρ) c _ _ _ _ _ _ (w11_a h) (w11_b h)
    ((W11_of m ρ c main_v40_0 (by decide)).trans ((W10_arr m ρ c 5).trans hz)) ((W11_of m ρ c main_v40_1 (by decide)).trans ((W10_arr m ρ c 6).trans hk))
    ((W11_of m ρ c main_v40_2 (by decide)).trans ((W10_arr m ρ c 7).trans hv)) (host5 (holds10 h)) P.dc_nonneg)⟩

theorem w14_h : W14 m ρ c (Proc.devRef .tc main_v50) = up2 P.enc := by
  obtain ⟨z, hz⟩ := w12_acc h
  obtain ⟨e1, e2, e3⟩ := host6 (holds12 h)
  have e := arr6 _ (P.layer 0 P.h0) _ _ _ (V13 m ρ) c ((W13_of m ρ c main_v43 (by decide)).trans hz) (w13_h h) e1 e2 e3 (den_ne _ _ _ _ _ _ _)
  rw [oX_attn] at e
  exact (W14_arr m ρ c 5).trans e

/-- The kernel program's result. -/
theorem w15_result : W15 m ρ c (Proc.devRef .tc main_v51) = up3 fun _ : Fin 1 => P.enc := host7 _ (w14_h h)

end Cert.Enc

end
-- ==== Proof.RefKit.lean ====
/- The reference at real arguments. -/
module

public import proofs.«01_k».proof.Proof.Params
public import proofs.«01_k».proof.Proof.Gen.ReferenceIdeal.Run

@[expose] public section

noncomputable section

namespace Cert.Enc

open Idealize.ShloMosaic Idealize.ShloMosaic.TcCoe Cert.ReferenceIdeal Cert.ReferenceIdeal.Gen Cert.ReferenceIdeal.Value

/-- The buffers' contents are these at the arguments that are read. -/
structure HoldsR (P : Par) (V : Valuation τ sig (Elt Ideal)) : Prop where
  x : V (Proc.devRef .tc main_arg0) = up2 P.x
  emb : V (Proc.devRef .tc main_arg3) = up2 P.emb
  wpos : V (Proc.devRef .tc main_arg4) = up2 P.wpos
  bpos : V (Proc.devRef .tc main_arg5) = up1 P.bpos
  wq : V (Proc.devRef .tc main_arg6) = up3 P.wq
  wk : V (Proc.devRef .tc main_arg7) = up3 P.wk
  wv : V (Proc.devRef .tc main_arg8) = up3 P.wv
  wo : V (Proc.devRef .tc main_arg9) = up3 P.wo
  wpair : V (Proc.devRef .tc main_arg10) = up3 P.wpair
  w1 : V (Proc.devRef .tc main_arg11) = up3 P.w1
  w2 : V (Proc.devRef .tc main_arg12) = up3 P.w2

variable {P : Par} {V : Valuation τ sig (Elt Ideal)}

/-- A stack of stacks of matrices of reals as an array of ideal floats. -/
def up4 {a b c d : ℕ} (f : Fin a → Fin b → Fin c → Fin d → ℝ) : FVec Ideal ⟨4, ![a, b, c, d]⟩ .f32 :=
  fun j => ((f (j 0) (j 1) (j 2) (j 3) : ℝ) : EReal)

theorem up4_apply {a b c d : ℕ} (f : Fin a → Fin b → Fin c → Fin d → ℝ) (i : Fin a) (j : Fin b) (k : Fin c) (l : Fin d) :
    up4 f (ix4 i j k l) = ((f i j k l : ℝ) : EReal) := rfl

theorem eq_up4 {a b c d : ℕ} (v : FVec Ideal ⟨4, ![a, b, c, d]⟩ .f32) (f : Fin a → Fin b → Fin c → Fin d → ℝ)
    (h : ∀ i j k l, v (ix4 i j k l) = ((f i j k l : ℝ) : EReal)) : v = up4 f := by
  funext j; rw [eq_ix4 j]; exact h _ _ _ _

end Cert.Enc

end
-- ==== Proof.RefLayer.lean ====
/- The reference's layers on arrays of reals. -/
module

public import proofs.«01_k».proof.Proof.RefKit

@[expose] public section

noncomputable section

namespace Cert.Enc

open Idealize.ShloMosaic Idealize.ShloMosaic.TcCoe Cert.ReferenceIdeal Cert.ReferenceIdeal.Gen Cert.ReferenceIdeal.Value

variable {V : Valuation τ sig (Elt Ideal)}

/-- The mean and variance normalisation, as the reference writes it. -/
def lnT (X : FVec Ideal S1x2048x128 .f32) : FVec Ideal S1x2048x128 .f32 :=
  Host.divf (subf X (broadcastInDim S1x2048x128 ![0, 1, 2] bcast_S1x2048x1_S1x2048x128_0_1_2 (Host.divf (broadcastInDim S1x2048x1 ![0, 1] bcast_S1x2048_S1x2048x1_0_1 (Host.reduceAdd X (constant S_ .f32 0x00000000#32) reducesTo_S1x2048x128_S1x2048_d2 h_S_)) (broadcastInDim S1x2048x1 ![] bcast_S_S1x2048x1 (constant S_ .f32 0x43000000#32))))) (broadcastInDim S1x2048x128 ![0, 1, 2] bcast_S1x2048x1_S1x2048x128_0_1_2 (Host.sqrt (addf (select (broadcastInDim S1x2048x1 ![] bcast_S_S1x2048x1 (cmpf .ogt (subf (constant (F := Ideal) S_ .f32 0x43000000#32) (sitofp .f32 (constantI S_ 32 0#32))) (constant S_ .f32 0x00000000#32))) (Host.divf (broadcastInDim S1x2048x1 ![0, 1] bcast_S1x2048_S1x2048x1_0_1 (Host.reduceAdd (mulf (subf X (broadcastInDim S1x2048x128 ![0, 1, 2] bcast_S1x2048x1_S1x2048x128_0_1_2 (Host.divf (broadcastInDim S1x2048x1 ![0, 1] bcast_S1x2048_S1x2048x1_0_1 (Host.reduceAdd X (constant S_ .f32 0x00000000#32) reducesTo_S1x2048x128_S1x2048_d2 h_S_)) (broadcastInDim S1x2048x1 ![] bcast_S_S1x2048x1 (constant S_ .f32 0x43000000#32))))) (subf X (broadcastInDim S1x2048x128 ![0, 1, 2] bcast_S1x2048x1_S1x2048x128_0_1_2 (Host.divf (broadcastInDim S1x2048x1 ![0, 1] bcast_S1x2048_S1x2048x1_0_1 (Host.reduceAdd X (constant S_ .f32 0x00000000#32) reducesTo_S1x2048x128_S1x2048_d2 h_S_)) (broadcastInDim S1x2048x1 ![] bcast_S_S1x2048x1 (constant S_ .f32 0x43000000#32)))))) (constant S_ .f32 0x00000000#32) reducesTo_S1x2048x128_S1x2048_d2 h_S_)) (broadcastInDim S1x2048x1 ![] bcast_S_S1x2048x1 (subf (constant S_ .f32 0x43000000#32) (sitofp .f32 (constantI S_ 32 0#32))))) (broadcastInDim S1x2048x1 ![] bcast_S_S1x2048x1 (id (constant (F := Ideal) S_ .f32 0x7FC00000#32)))) (broadcastInDim S1x2048x1 ![] bcast_S_S1x2048x1 (constant S_ .f32 0x3727C5AC#32)))))

theorem r_v71 : res_main_v71 V = lnT (res_main_v30 V) := rfl
theorem r_v143 : res_main_v143 V = lnT (res_main_v131 V) := rfl

theorem lnT_eq (H : Fin 2048 → Fin 128 → ℝ) : lnT (up3 fun _ : Fin 1 => H) = up3 fun _ : Fin 1 => lnS H := by
  refine eq_up3 _ _ fun b i k => ?_
  have hs : (FloatOps.sitofp (F := Ideal) .f32 (0#32) : EReal) = 0 := by
    show (((0#32 : BitVec 32).toInt : ℝ) : EReal) = 0
    simp
  have hp : (0 : EReal) < Ideal.ofBits .f32 0x43000000#32 := by rw [c_128]; exact_mod_cast (by norm_num : (0 : ℝ) < 128)
  unfold lnT
  pointwise
  simp only [up3_apply, hs, sub_zero, if_pos hp]
  exact ln_coe (H i) k

/-- The feed-forward step, as the reference writes it. -/
def ffT (X : FVec Ideal S1x2048x128 .f32) (w1 : FVec Ideal S128x256 .f32) (w2 : FVec Ideal S256x128 .f32) : FVec Ideal S1x2048x128 .f32 :=
  addf X (Host.dotGeneral dot_S1x2048x256_S256x128_S1x2048x128_2_0_01_1_n_n none (maximumf (Host.dotGeneral dot_S1x2048x128_S128x256_S1x2048x256_2_0_01_1_n_n none (lnT X) w1) (broadcastInDim S1x2048x256 ![] bcast_S_S1x2048x256 (constant S_ .f32 0x00000000#32))) w2)

theorem ffT_eq (H : Fin 2048 → Fin 128 → ℝ) (w1 : Fin 128 → Fin 256 → ℝ) (w2 : Fin 256 → Fin 128 → ℝ) :
    ffT (up3 fun _ : Fin 1 => H) (up2 w1) (up2 w2) = up3 fun _ : Fin 1 => ffS H w1 w2 := by
  refine eq_up3 _ _ fun b i k => ?_
  unfold ffT
  rw [lnT_eq]
  pointwise
  simp only [up3_apply, up2_apply, c_zero, EReal.coe_zero, ← EReal.coe_mul, coe_sum, coe_max, ← EReal.coe_add]
  rfl

theorem r_v131 : res_main_v131 V = ffT (res_main_v111 V) (shapeCast _ (extractStridedSlice S1x128x256 ![0, 0, 0] (V (Proc.devRef .tc main_arg11)) slices_S2x128x256_S1x128x256_0_0_0) shapeCasts_S1x128x256_S128x256) (shapeCast _ (extractStridedSlice S1x256x128 ![0, 0, 0] (V (Proc.devRef .tc main_arg12)) slices_S2x256x128_S1x256x128_0_0_0) shapeCasts_S1x256x128_S256x128) := rfl

/-- The attention's logits, as the reference writes them. -/
def lgT (X : FVec Ideal S1x2048x128 .f32) (wq wk : FVec Ideal S128x128 .f32) (wp : FVec Ideal S9x8 .f32) (Y : FVec Ideal S1x2048x2048x9 .f32) : FVec Ideal S1x8x2048x2048 .f32 :=
  addf (Host.divf (Host.dotGeneral dot_S1x2048x8x16_S1x2048x8x16_S1x8x2048x2048_3_3_1_1_02_02 none (shapeCast _ (Host.dotGeneral dot_S1x2048x128_S128x128_S1x2048x128_2_0_01_1_n_n none X wq) shapeCasts_S1x2048x128_S1x2048x8x16) (shapeCast _ (Host.dotGeneral dot_S1x2048x128_S128x128_S1x2048x128_2_0_01_1_n_n none X wk) shapeCasts_S1x2048x128_S1x2048x8x16)) (broadcastInDim S1x8x2048x2048 ![] bcast_S_S1x8x2048x2048 (id (Host.sqrt (constant S_ .f32 0x41800000#32))))) (transpose S1x8x2048x2048 [1, 0, 2, 3] (Host.dotGeneral dot_S9x8_S1x2048x2048x9_S8x1x2048x2048_0_3_1_012_n_n none wp Y) transposes_S8x1x2048x2048_S1x8x2048x2048_1_0_2_3)

theorem sqrt_sixteen : (id (Host.sqrt (constant (F := Ideal) S_ .f32 0x41800000#32)) : FVec Ideal S_ .f32) ix0 = ((4 : ℝ) : EReal) := by
  show Ideal.sqrt (Ideal.ofBits .f32 0x41800000#32) = _
  rw [c_sixteen, sqrt_coe (by norm_num), show (16 : ℝ) = 4 ^ 2 by norm_num, Real.sqrt_sq (by norm_num)]

theorem lgT_eq (H : Fin 2048 → Fin 128 → ℝ) (wq wk : Fin 128 → Fin 128 → ℝ) (wp : Fin 9 → Fin 8 → ℝ) (Y : Fin 2048 → Fin 2048 → Fin 9 → ℝ) :
    lgT (up3 fun _ : Fin 1 => H) (up2 wq) (up2 wk) (up2 wp) (up4 fun _ : Fin 1 => Y)
      = up4 fun _ : Fin 1 => logitS (mm H wq) (mm H wk) fun h i j => ∑ x, wp x h * Y i j x := by
  refine eq_up4 _ _ fun b i j k => ?_
  have e : ∀ x : Fin 16, (⟨(i : ℕ) * 16 + x, by omega⟩ : Fin 128) = ⟨16 * i + x, by omega⟩ := fun x => Fin.ext (by dsimp only; omega)
  unfold lgT
  pointwise
  simp only [sqrt_sixteen, up4_apply, up3_apply, up2_apply, ← EReal.coe_mul, coe_sum, e]
  rw [div_coe (by norm_num), ← EReal.coe_add]
  rfl

/-- The exponentials of the logits less their greatest, as the reference writes them. -/
def exT (L : FVec Ideal S1x8x2048x2048 .f32) : FVec Ideal S1x8x2048x2048 .f32 :=
  Host.exp (subf L (broadcastInDim S1x8x2048x2048 ![0, 1, 2, 3] bcast_S1x8x2048x1_S1x8x2048x2048_0_1_2_3 (broadcastInDim S1x8x2048x1 ![0, 1, 2] bcast_S1x8x2048_S1x8x2048x1_0_1_2 (maximumf (broadcastInDim S1x8x2048 ![] bcast_S_S1x8x2048 (constant S_ .f32 0xFF800000#32)) (Host.reduce FloatOps.maximumf L (constant S_ .f32 0xFF800000#32) reducesTo_S1x8x2048x2048_S1x8x2048_d3 h_S_)))))

/-- The greatest along the last of four axes, at an index. -/
theorem max_r4 {n0 n1 n2 n3 : ℕ} (v : FVec Ideal ⟨4, ![n0, n1, n2, n3]⟩ .f32) {u : Shape} (c : FVec Ideal u .f32)
    (h : (⟨4, ![n0, n1, n2, n3]⟩ : Shape).ReducesTo [3] ⟨3, ![n0, n1, n2]⟩) (hu : 0 < u.numel) (i : Fin n0) (j : Fin n1) (k : Fin n2) :
    Host.reduce FloatOps.maximumf v c h hu (ix3 i j k) = Finset.univ.fold max (c (Shape.Idx.first hu)) fun l : Fin n3 => v (ix4 i j k l) := by
  simp only [pointwise]

/-- The exponentials of the logits less some row numbers. -/
theorem exp_sub (L : Fin 8 → Fin 2048 → Fin 2048 → ℝ) (R : FVec Ideal S1x8x2048 .f32) (M : Fin 8 → Fin 2048 → ℝ) (hR : ∀ b h i, R (ix3 b h i) = ((M h i : ℝ) : EReal)) :
    Host.exp (subf (up4 fun _ : Fin 1 => L : FVec Ideal S1x8x2048x2048 .f32) (broadcastInDim S1x8x2048x2048 ![0, 1, 2, 3] bcast_S1x8x2048x1_S1x8x2048x2048_0_1_2_3 (broadcastInDim S1x8x2048x1 ![0, 1, 2] bcast_S1x8x2048_S1x8x2048x1_0_1_2 (maximumf (broadcastInDim S1x8x2048 ![] bcast_S_S1x8x2048 (constant S_ .f32 0xFF800000#32)) R))))
      = up4 fun _ : Fin 1 => fun h i j => Real.exp (L h i j - M h i) := by
  refine eq_up4 _ _ fun b i j l => ?_
  pointwise
  simp only [up4_apply, c_neg_inf, hR, max_bot_left, ← EReal.coe_sub, Ideal.exp_coe]

theorem exT_eq (L : Fin 8 → Fin 2048 → Fin 2048 → ℝ) : ∃ M : Fin 8 → Fin 2048 → ℝ,
    exT (up4 fun _ : Fin 1 => L) = up4 fun _ : Fin 1 => fun h i j => Real.exp (L h i j - M h i) := by
  choose k hk using fun (h : Fin 8) (i : Fin 2048) => fold_max_coe (by norm_num) (L h i)
  refine ⟨fun h i => L h i (k h i), exp_sub L _ _ fun b h i => (max_r4 _ _ _ _ b h i).trans ?_⟩
  rw [← hk h i]
  exact congrArg (fun z => Finset.univ.fold max z fun l => ((L h i l : ℝ) : EReal)) c_neg_inf

/-- The attention and the residual, as the reference writes them. -/
def atT (X N : FVec Ideal S1x2048x128 .f32) (wv wo : FVec Ideal S128x128 .f32) (E : FVec Ideal S1x8x2048x2048 .f32) : FVec Ideal S1x2048x128 .f32 :=
  addf X (Host.dotGeneral dot_S1x2048x128_S128x128_S1x2048x128_2_0_01_1_n_n none (shapeCast _ (transpose S1x2048x8x16 [0, 3, 1, 2] (Host.dotGeneral dot_S1x2048x8x16_S1x8x2048x2048_S1x8x16x2048_1_3_3_2_02_01 none (shapeCast _ (Host.dotGeneral dot_S1x2048x128_S128x128_S1x2048x128_2_0_01_1_n_n none N wv) shapeCasts_S1x2048x128_S1x2048x8x16) (Host.divf E (broadcastInDim S1x8x2048x2048 ![0, 1, 2, 3] bcast_S1x8x2048x1_S1x8x2048x2048_0_1_2_3 (broadcastInDim S1x8x2048x1 ![0, 1, 2] bcast_S1x8x2048_S1x8x2048x1_0_1_2 (Host.reduceAdd E (constant S_ .f32 0x00000000#32) reducesTo_S1x8x2048x2048_S1x8x2048_d3 h_S_))))) transposes_S1x8x16x2048_S1x2048x8x16_0_3_1_2) shapeCasts_S1x2048x8x16_S1x2048x128) wo)

theorem atT_eq (X N : Fin 2048 → Fin 128 → ℝ) (wv wo : Fin 128 → Fin 128 → ℝ) (E : Fin 8 → Fin 2048 → Fin 2048 → ℝ) (hE : ∀ h i, ∑ j, E h i j ≠ 0) :
    atT (up3 fun _ : Fin 1 => X) (up3 fun _ : Fin 1 => N) (up2 wv) (up2 wo) (up4 fun _ : Fin 1 => E)
      = up3 fun _ : Fin 1 => resid X (fun i c => ∑ j, mm N wv j c * (E ⟨c / 16, by omega⟩ i j / ∑ j, E ⟨c / 16, by omega⟩ i j)) wo := by
  refine eq_up3 _ _ fun b i j => ?_
  unfold atT
  pointwise
  simp only [up4_apply, up3_apply, up2_apply, ← EReal.coe_mul, coe_sum, div_coe (hE _ _), ← EReal.coe_add]
  rfl

/-- One layer, as the reference writes it, with the pairs' features Y. -/
def layT (X : FVec Ideal S1x2048x128 .f32) (wq wk wv wo : FVec Ideal S128x128 .f32) (wp : FVec Ideal S9x8 .f32) (w1 : FVec Ideal S128x256 .f32)
    (w2 : FVec Ideal S256x128 .f32) (Y : FVec Ideal S1x2048x2048x9 .f32) : FVec Ideal S1x2048x128 .f32 :=
  ffT (atT X (lnT X) wv wo (exT (lgT (lnT X) wq wk wp Y))) w1 w2

theorem layT_eq (H : Fin 2048 → Fin 128 → ℝ) (wq wk wv wo : Fin 128 → Fin 128 → ℝ) (wp : Fin 9 → Fin 8 → ℝ) (w1 : Fin 128 → Fin 256 → ℝ) (w2 : Fin 256 → Fin 128 → ℝ)
    (Y : Fin 2048 → Fin 2048 → Fin 9 → ℝ) :
    layT (up3 fun _ : Fin 1 => H) (up2 wq) (up2 wk) (up2 wv) (up2 wo) (up2 wp) (up2 w1) (up2 w2) (up4 fun _ : Fin 1 => Y)
      = up3 fun _ : Fin 1 => layerS H (fun h i j => ∑ x, wp x h * Y i j x) wq wk wv wo w1 w2 := by
  obtain ⟨M, hM⟩ := exT_eq (logitS (mm (lnS H) wq) (mm (lnS H) wk) fun h i j => ∑ x, wp x h * Y i j x)
  unfold layT
  rw [lnT_eq, lgT_eq, hM, atT_eq _ _ _ _ _ fun h i => (Finset.sum_pos (fun j _ => Real.exp_pos _) ⟨0, Finset.mem_univ _⟩).ne', ffT_eq]
  refine congrArg (fun o => up3 fun _ : Fin 1 => ffS (resid H o wo) w1 w2) ?_
  funext i c
  refine Eq.trans ?_ (softmax_shift (fun j => logitS (mm (lnS H) wq) (mm (lnS H) wk) (fun h i j => ∑ x, wp x h * Y i j x) ⟨c / 16, by omega⟩ i j) (fun j => mm (lnS H) wv j c) (M ⟨c / 16, by omega⟩ i))
  rw [Finset.sum_div]
  exact Finset.sum_congr rfl fun j _ => by ring

end Cert.Enc

end
-- ==== Proof.RefPrep.lean ====
/- The reference's first embedding and pair features at real arguments. -/
module

public import proofs.«01_k».proof.Proof.RefKit

@[expose] public section

noncomputable section

namespace Cert.Enc

open Idealize.ShloMosaic Idealize.ShloMosaic.TcCoe Cert.ReferenceIdeal Cert.ReferenceIdeal.Gen Cert.ReferenceIdeal.Value

variable {P : Par} {V : Valuation τ sig (Elt Ideal)}

/-- A row of the residue types' table, found by a word. -/
theorem gather_emb (x : FVec Ideal S21x128 .f32) (idx : IVec S1x2048x1 32) (b : Fin 1) (i : Fin 2048) (k : Fin 128) :
    Host.gather gather_S21x128_S1x2048x1_S1x2048x128_2_0_n_n_0_2_1128 x idx (ix3 b i k) = x (ix2 ⟨min (idx (ix3 b i 0)).toInt.toNat 20, by omega⟩ k) := by
  unfold Host.gather
  refine congrArg x (funext fun a => Fin.ext ?_)
  match a with
  | ⟨0, _⟩ =>
    refine congrArg (fun z => min (idx z).toInt.toNat 20) (a₂ := ix3 b i 0) ?_
    funext c
    match c with
    | ⟨0, _⟩ => rfl
    | ⟨1, _⟩ => rfl
    | ⟨2, _⟩ => rfl
  | ⟨1, _⟩ => exact Nat.zero_add _

/-- A word from 0 to 20. -/
theorem small_word (w : BitVec 32) (hw : w.toNat < 21) :
    IntOp.cmpi .slt w 0#32 = 0#1 ∧ IntOp.cmpi .sge w 0#32 = 1#1 ∧ IntOp.cmpi .sle w 20#32 = 1#1 ∧ w.toInt.toNat = w.toNat := by
  have h : ∀ n : Fin 21, IntOp.cmpi .slt (BitVec.ofNat 32 n) 0#32 = 0#1 ∧ IntOp.cmpi .sge (BitVec.ofNat 32 n) 0#32 = 1#1 ∧ IntOp.cmpi .sle (BitVec.ofNat 32 n) 20#32 = 1#1 ∧ (BitVec.ofNat 32 n).toInt.toNat = (BitVec.ofNat 32 n).toNat := by decide
  have := h ⟨w.toNat, hw⟩
  rwa [show BitVec.ofNat 32 (⟨w.toNat, hw⟩ : Fin 21) = w by simp] at this

theorem fold_and {α : Type} (s : Finset α) (f : α → BitVec 1) (hf : ∀ x, f x = 1#1) : s.fold IntOp.andi 1#1 f = 1#1 := by
  classical
  induction s using Finset.induction_on with
  | empty => rfl
  | insert a s ha ih => rw [Finset.fold_insert ha, ih, hf]; rfl

theorem umask_coe (x : ℝ) {hd : Decidable (Ideal.ofBits .f32 0x3F000000#32 < ((x : ℝ) : EReal))} : FloatOps.uitofp (F := Ideal) .f32 (BitVec.ofBool (decide (Ideal.ofBits .f32 0x3F000000#32 < ((x : ℝ) : EReal)))) = ((maskR x : ℝ) : EReal) := by
  show (((BitVec.ofBool (decide (Ideal.ofBits .f32 0x3F000000#32 < ((x : ℝ) : EReal)))).toNat : ℝ) : EReal) = _
  have e : (Ideal.ofBits .f32 0x3F000000#32 < ((x : ℝ) : EReal)) ↔ 1 / 2 < x := by rw [c_half, EReal.coe_lt_coe_iff]
  rw [maskR]
  by_cases h : 1 / 2 < x
  · rw [if_pos h, decide_eq_true (e.mpr h)]; simp
  · rw [if_neg h, decide_eq_false fun h' => h (e.mp h')]; simp

theorem umask_up2 {a b : ℕ} (m : Fin a → Fin b → ℝ) (i : Fin a) (x : Fin b) {hd : Decidable (Ideal.ofBits .f32 0x3F000000#32 < up2 m (ix2 i x))} :
    (FloatOps.uitofp (F := Ideal) .f32 (BitVec.ofBool (decide (Ideal.ofBits .f32 0x3F000000#32 < up2 m (ix2 i x)))) : EReal) = ((maskR (m i x) : ℝ) : EReal) := umask_coe _

theorem sum_triples (F : Fin 42 → ℝ) : ∑ x, F x = (∑ a : Fin 14, F ⟨0 + 3 * a, by omega⟩) + (∑ a : Fin 14, F ⟨1 + 3 * a, by omega⟩) + ∑ a : Fin 14, F ⟨2 + 3 * a, by omega⟩ := by
  rw [← Equiv.sum_comp (finProdFinEquiv (m := 14) (n := 3)) F, Fintype.sum_prod_type, ← Finset.sum_add_distrib, ← Finset.sum_add_distrib]
  exact Finset.sum_congr rfl fun a _ => Fin.sum_univ_three _

theorem rel_term (i : Fin 2048) (j : Fin 128) (k : Fin 3) (a : Fin 14) :
    (P.x i ⟨(k + 3 * a) / 3 * 3 + (k + 3 * a) % 3, by omega⟩ - P.x i ⟨3 + (k + 3 * a) % 3, by omega⟩) * maskR (P.x i ⟨45 + (k + 3 * a) / 3, by omega⟩) * P.wpos ⟨k + 3 * a, by omega⟩ j
      = relS (P.pos k) P.mask i a * P.wp k a j := by
  have e1 : (⟨(k + 3 * a) / 3 * 3 + (k + 3 * a) % 3, by omega⟩ : Fin 59) = ⟨k + 3 * a, by omega⟩ := Fin.ext (by dsimp only; omega)
  have e2 : (⟨3 + (k + 3 * a) % 3, by omega⟩ : Fin 59) = ⟨k + 3 * (1 : Fin 14), by omega⟩ := Fin.ext (by show 3 + ((k : ℕ) + 3 * a) % 3 = k + 3 * 1; omega)
  have e3 : (⟨45 + (k + 3 * a) / 3, by omega⟩ : Fin 59) = ⟨45 + a, by omega⟩ := Fin.ext (by dsimp only; omega)
  rw [e1, e2, e3]
  rfl

theorem rel_sum (i : Fin 2048) (j : Fin 128) :
    (∑ x : Fin 42, (P.x i ⟨x / 3 * 3 + x % 3, by omega⟩ - P.x i ⟨3 + x % 3, by omega⟩) * maskR (P.x i ⟨45 + x / 3, by omega⟩) * P.wpos x j)
      = mm (relS (P.pos 0) P.mask) (P.wp 0) i j + mm (relS (P.pos 1) P.mask) (P.wp 1) i j + mm (relS (P.pos 2) P.mask) (P.wp 2) i j := by
  rw [sum_triples]
  exact congrArg₂ (· + ·) (congrArg₂ (· + ·) (Finset.sum_congr rfl fun a _ => rel_term i j 0 a) (Finset.sum_congr rfl fun a _ => rel_term i j 1 a)) (Finset.sum_congr rfl fun a _ => rel_term i j 2 a)

variable (h : HoldsR P V)
include h

theorem r_v1 : res_main_v1 V = up4 fun _ : Fin 1 => fun i (a : Fin 14) (k : Fin 3) => P.x i ⟨a * 3 + k, by omega⟩ := by
  refine eq_up4 _ _ fun b i a k => ?_
  unfold res_main_v1
  rw [h.x]
  pointwise
  rfl

theorem r_v17 : res_main_v17 V = up3 fun _ : Fin 1 => fun i (k : Fin 3) => P.x i ⟨3 + k, by omega⟩ := by
  refine eq_up3 _ _ fun b i k => ?_
  unfold res_main_v17
  rw [r_v1 h]
  pointwise
  rfl

theorem r_v6 (b : Fin 1) (i : Fin 2048) : res_main_v6 V (ix2 b i) = aaW (P.aa i 0 : ℝ) := by
  unfold res_main_v6
  rw [h.x]
  pointwise
  rfl

theorem r_v10 (b : Fin 1) (i : Fin 2048) : res_main_v10 V (ix2 b i) = FloatOps.fptosi (F := Ideal) (φ := .f32) 32 (P.x i 44 : ℝ) := by
  unfold res_main_v10
  rw [h.x]
  pointwise
  rfl

theorem r_c1 (b : Fin 1) (i : Fin 2048) (k : Fin 1) : res_main_call1_v5 V (ix3 b i k) = aaW (P.aa i 0 : ℝ) := by
  unfold res_main_call1_v5
  pointwise
  simp only [r_v6 h, (small_word _ (clip_lt _) : IntOp.cmpi .slt (aaW (P.aa i 0 : ℝ)) 0#32 = 0#1 ∧ _).1]
  rfl

theorem r_v30 : res_main_v30 V = up3 fun _ : Fin 1 => P.h0 := by
  refine eq_up3 _ _ fun b i k => ?_
  have hall (x : S1x2048x1.Idx) : IntOp.andi (IntOp.cmpi .sge (res_main_call1_v5 V x) 0#32) (IntOp.cmpi .sle (res_main_call1_v5 V x) 20#32) = 1#1 := by
    have hx : res_main_call1_v5 V x = aaW (P.aa (x 1 : Fin 2048) 0 : ℝ) := (congrArg _ (eq_ix3 x)).trans (r_c1 h (x 0) (x 1) (x 2))
    have hw := small_word (aaW (P.aa (x 1 : Fin 2048) 0 : ℝ)) (clip_lt _)
    rw [hx, hw.2.1, hw.2.2.1]; rfl
  have hrow : (⟨min (aaW (P.aa i 0 : ℝ)).toInt.toNat 20, by omega⟩ : Fin 21) = aaI (P.aa i 0 : ℝ) :=
    Fin.ext (by
      have hw : (aaW (P.aa i 0 : ℝ)).toNat < 21 := clip_lt _
      show min _ 20 = (aaW _).toNat
      rw [(small_word _ hw).2.2.2]; omega)
  unfold res_main_v30
  rw [r_v1 h, r_v17 h, h.x, h.emb, h.wpos, h.bpos]
  generalize hR : Host.reduce IntOp.andi _ _ _ _ = R
  have hall' (b : Fin 1) (i : Fin 2048) : R (ix2 b i) = 1#1 := by
    rw [← hR]
    pointwise
    exact fold_and _ _ hall
  pointwise
  simp only [hall', gather_emb, r_c1 h, hrow, umask_up2]
  simp only [up4_apply, up3_apply, up2_apply, up1_apply, ← EReal.coe_sub, ← EReal.coe_mul, coe_sum, rel_sum]
  rw [show Scalar.select 1#1 ((P.emb (aaI (P.aa i 0 : ℝ)) k : ℝ) : EReal) (Ideal.ofBits .f32 0x7FC00000#32) = ((P.emb (aaI (P.aa i 0 : ℝ)) k : ℝ) : EReal) from rfl,
    ← EReal.coe_add, ← EReal.coe_add]
  refine congrArg (fun z : ℝ => (z : EReal)) ?_
  show _ + _ + P.bpos k = _ + _ + _ + P.emb (aaI (P.aa i 0 : ℝ)) k + P.bpos k
  rw [add_comm (P.emb _ _)]

theorem r_v35 : res_main_v35 V = up4 fun _ : Fin 1 => fun i j (k : Fin 3) => P.x i ⟨3 + k, by omega⟩ - P.x j ⟨3 + k, by omega⟩ := by
  refine eq_up4 _ _ fun b i j k => ?_
  unfold res_main_v35
  rw [r_v17 h]
  pointwise
  simp only [up3_apply, ← EReal.coe_sub]

omit h in
theorem lin_v6 (k : Fin 7) : res_main_call2_v6 V (ix1 k) = ((k / 7 : ℝ) : EReal) := by
  have hk : (BitVec.ofNat 32 k).toInt = (k : ℤ) := by revert k; decide
  unfold res_main_call2_v6
  pointwise
  rw [show FloatOps.sitofp (F := Ideal) .f32 (BitVec.ofNat 32 k) = (((k : ℕ) : ℝ) : EReal) by
    show (((BitVec.ofNat 32 k).toInt : ℝ) : EReal) = _
    rw [hk]; norm_cast, c_seven, div_coe (by norm_num)]

omit h in
theorem lin_v0 : res_main_call2_v0 V ix0 = ((0 : ℝ) : EReal) := c_zero

omit h in
theorem lin_v1 : res_main_call2_v1 V ix0 = ((2 : ℝ) : EReal) := c_two

omit h in
/-- The centres. -/
theorem lin (x : ℕ) (hx8 : x < 8) : (if _ : x < 7 then ((0 : ℝ) : EReal) * (1 - ((x / 7 : ℝ) : EReal)) + ((2 : ℝ) : EReal) * ((x / 7 : ℝ) : EReal) else ((2 : ℝ) : EReal)) = ((x * (2 / 7) : ℝ) : EReal) := by
  split
  · rw [← EReal.coe_one, ← EReal.coe_sub, ← EReal.coe_mul, ← EReal.coe_mul, ← EReal.coe_add]
    congr 1; ring
  · have : x = 7 := by omega
    rw [this]; congr 1; norm_num

omit h in
theorem d2_sum (i j : Fin 2048) : (∑ k : Fin 3, (P.x i ⟨3 + k, by omega⟩ - P.x j ⟨3 + k, by omega⟩) * (P.x i ⟨3 + k, by omega⟩ - P.x j ⟨3 + k, by omega⟩)) + del = d2X P.A P.B i j := by
  rw [Par.A, Par.B, d2X_eq, Fin.sum_univ_three]
  show _ = (P.x i ⟨3, _⟩ - P.x j ⟨3, _⟩) ^ 2 + (P.x i ⟨4, _⟩ - P.x j ⟨4, _⟩) ^ 2 + (P.x i ⟨5, _⟩ - P.x j ⟨5, _⟩) ^ 2 + del
  rw [sq, sq, sq]
  rfl

theorem r_v46 (b : Fin 1) (i j : Fin 2048) (x : Fin 8) : res_main_v46 V (ix4 b i j x) = ((√(d2X P.A P.B i j) - x * (2 / 7) : ℝ) : EReal) := by
  unfold res_main_v46
  rw [r_v35 h]
  pointwise
  simp only [up4_apply, c_del, ← EReal.coe_mul, coe_sum, ← EReal.coe_add, d2_sum, lin_v0, lin_v1, lin_v6]
  refine (congrArg (HSub.hSub _) (lin x x.isLt)).trans ?_
  rw [sqrt_coe (by rw [← d2_sum]; exact add_nonneg (Finset.sum_nonneg fun x _ => mul_self_nonneg _) del_pos.le), ← EReal.coe_sub]

omit h in
/-- The indicator of a common chain, from the chains' words. -/
theorem same_coe (i j : Fin 2048) : FloatOps.uitofp (F := Ideal) .f32 (IntOp.cmpi .eq (FloatOps.fptosi (F := Ideal) (φ := .f32) 32 ((P.x i 44 : ℝ) : EReal)) (FloatOps.fptosi (F := Ideal) (φ := .f32) 32 ((P.x j 44 : ℝ) : EReal)))
    = ((sameX P.A P.B i j : ℝ) : EReal) := by
  have e : dcX P.A P.B i j = 0 ↔ FloatOps.fptosi (F := Ideal) (φ := .f32) 32 ((P.x i 44 : ℝ) : EReal) = FloatOps.fptosi (F := Ideal) (φ := .f32) 32 ((P.x j 44 : ℝ) : EReal) := by
    rw [Par.A, Par.B, dcX_eq, sq_eq_zero_iff, sub_eq_zero]
    exact ⟨fun hc => BitVec.eq_of_toInt_eq (Int.cast_injective (α := ℝ) hc), fun hc => congrArg (fun w : BitVec 32 => (w.toInt : ℝ)) hc⟩
  show (((BitVec.ofBool (_ == _)).toNat : ℝ) : EReal) = _
  rw [sameX]
  by_cases hc : dcX P.A P.B i j = 0
  · rw [if_pos hc, e.1 hc]; simp
  · rw [if_neg hc, beq_eq_false_iff_ne.2 fun hw => hc (e.2 hw)]; simp

/-- A pair's nine features. -/
def featX (P : Par) (i j : Fin 2048) (x : Fin 9) : ℝ :=
  if x.val < 8 then Real.exp (-((√(d2X P.A P.B i j) - x * (2 / 7)) ^ 2) * 8) else sameX P.A P.B i j

theorem r_v59 : res_main_v59 V = up4 fun _ : Fin 1 => featX P := by
  refine eq_up4 _ _ fun b i j x => ?_
  unfold res_main_v59
  pointwise
  simp only [r_v46 h, r_v10 h, same_coe, c_eight, featX]
  split
  · rw [← EReal.coe_mul, ← EReal.coe_neg, ← EReal.coe_mul, Ideal.exp_coe, sq]
  · rfl

omit h in
theorem feat_pair (l : Fin 2) : (fun (h : Fin 8) (i j : Fin 2048) => ∑ x, P.wpair l x h * featX P i j x) = P.pair l := by
  funext h i j
  rw [Fin.sum_univ_castSucc]
  refine congrArg₂ (· + ·) (Finset.sum_congr rfl fun c _ => ?_) ?_
  · rw [mul_comm, featX, if_pos (show c.castSucc.val < 8 from c.isLt)]; rfl
  · rw [mul_comm, featX, if_neg (by simp)]; rfl

end Cert.Enc

end
-- ==== Proof.RefChain.lean ====
/- The reference's result at real arguments. -/
module

public import proofs.«01_k».proof.Proof.RefLayer
public import proofs.«01_k».proof.Proof.RefPrep

@[expose] public section

noncomputable section

namespace Cert.Enc

open Idealize.ShloMosaic Idealize.ShloMosaic.TcCoe Cert.ReferenceIdeal Cert.ReferenceIdeal.Gen Cert.ReferenceIdeal.Value

variable {P : Par} {V : Valuation τ sig (Elt Ideal)}

/-! ## The two layers' weights, cut out of their stacks -/

/-- A square matrix of a layer. -/
theorem cut_a (l : Fin 2) (w : Fin 2 → Fin 128 → Fin 128 → ℝ) {hs : S2x128x128.Slices ![(l : ℕ), 0, 0] S1x128x128} :
    shapeCast S128x128 (extractStridedSlice S1x128x128 ![(l : ℕ), 0, 0] (up3 w) hs) shapeCasts_S1x128x128_S128x128 = up2 (w l) := by
  refine eq_up2 _ _ fun i j => ?_
  pointwise
  rw [up3_apply]

/-- The pairs' weights of a layer. -/
theorem cut_p (l : Fin 2) (w : Fin 2 → Fin 9 → Fin 8 → ℝ) {hs : S2x9x8.Slices ![(l : ℕ), 0, 0] S1x9x8} :
    shapeCast S9x8 (extractStridedSlice S1x9x8 ![(l : ℕ), 0, 0] (up3 w) hs) shapeCasts_S1x9x8_S9x8 = up2 (w l) := by
  refine eq_up2 _ _ fun i j => ?_
  pointwise
  rw [up3_apply]

/-- The widening matrix of a layer. -/
theorem cut_u (l : Fin 2) (w : Fin 2 → Fin 128 → Fin 256 → ℝ) {hs : S2x128x256.Slices ![(l : ℕ), 0, 0] S1x128x256} :
    shapeCast S128x256 (extractStridedSlice S1x128x256 ![(l : ℕ), 0, 0] (up3 w) hs) shapeCasts_S1x128x256_S128x256 = up2 (w l) := by
  refine eq_up2 _ _ fun i j => ?_
  pointwise
  rw [up3_apply]

/-- The narrowing matrix of a layer. -/
theorem cut_d (l : Fin 2) (w : Fin 2 → Fin 256 → Fin 128 → ℝ) {hs : S2x256x128.Slices ![(l : ℕ), 0, 0] S1x256x128} :
    shapeCast S256x128 (extractStridedSlice S1x256x128 ![(l : ℕ), 0, 0] (up3 w) hs) shapeCasts_S1x256x128_S256x128 = up2 (w l) := by
  refine eq_up2 _ _ fun i j => ?_
  pointwise
  rw [up3_apply]

/-- Layer 0 as the reference writes it. -/
def lay0 (V : Valuation τ sig (Elt Ideal)) (X : FVec Ideal S1x2048x128 .f32) : FVec Ideal S1x2048x128 .f32 :=
  layT X (shapeCast _ (extractStridedSlice S1x128x128 ![0, 0, 0] (V (Proc.devRef .tc main_arg6)) slices_S2x128x128_S1x128x128_0_0_0) shapeCasts_S1x128x128_S128x128) (shapeCast _ (extractStridedSlice S1x128x128 ![0, 0, 0] (V (Proc.devRef .tc main_arg7)) slices_S2x128x128_S1x128x128_0_0_0) shapeCasts_S1x128x128_S128x128)
    (shapeCast _ (extractStridedSlice S1x128x128 ![0, 0, 0] (V (Proc.devRef .tc main_arg8)) slices_S2x128x128_S1x128x128_0_0_0) shapeCasts_S1x128x128_S128x128) (shapeCast _ (extractStridedSlice S1x128x128 ![0, 0, 0] (V (Proc.devRef .tc main_arg9)) slices_S2x128x128_S1x128x128_0_0_0) shapeCasts_S1x128x128_S128x128)
    (shapeCast _ (extractStridedSlice S1x9x8 ![0, 0, 0] (V (Proc.devRef .tc main_arg10)) slices_S2x9x8_S1x9x8_0_0_0) shapeCasts_S1x9x8_S9x8) (shapeCast _ (extractStridedSlice S1x128x256 ![0, 0, 0] (V (Proc.devRef .tc main_arg11)) slices_S2x128x256_S1x128x256_0_0_0) shapeCasts_S1x128x256_S128x256)
    (shapeCast _ (extractStridedSlice S1x256x128 ![0, 0, 0] (V (Proc.devRef .tc main_arg12)) slices_S2x256x128_S1x256x128_0_0_0) shapeCasts_S1x256x128_S256x128) (res_main_v59 V)

/-- Layer 1 as the reference writes it. -/
def lay1 (V : Valuation τ sig (Elt Ideal)) (X : FVec Ideal S1x2048x128 .f32) : FVec Ideal S1x2048x128 .f32 :=
  layT X (shapeCast _ (extractStridedSlice S1x128x128 ![1, 0, 0] (V (Proc.devRef .tc main_arg6)) slices_S2x128x128_S1x128x128_1_0_0) shapeCasts_S1x128x128_S128x128) (shapeCast _ (extractStridedSlice S1x128x128 ![1, 0, 0] (V (Proc.devRef .tc main_arg7)) slices_S2x128x128_S1x128x128_1_0_0) shapeCasts_S1x128x128_S128x128)
    (shapeCast _ (extractStridedSlice S1x128x128 ![1, 0, 0] (V (Proc.devRef .tc main_arg8)) slices_S2x128x128_S1x128x128_1_0_0) shapeCasts_S1x128x128_S128x128) (shapeCast _ (extractStridedSlice S1x128x128 ![1, 0, 0] (V (Proc.devRef .tc main_arg9)) slices_S2x128x128_S1x128x128_1_0_0) shapeCasts_S1x128x128_S128x128)
    (shapeCast _ (extractStridedSlice S1x9x8 ![1, 0, 0] (V (Proc.devRef .tc main_arg10)) slices_S2x9x8_S1x9x8_1_0_0) shapeCasts_S1x9x8_S9x8) (shapeCast _ (extractStridedSlice S1x128x256 ![1, 0, 0] (V (Proc.devRef .tc main_arg11)) slices_S2x128x256_S1x128x256_1_0_0) shapeCasts_S1x128x256_S128x256)
    (shapeCast _ (extractStridedSlice S1x256x128 ![1, 0, 0] (V (Proc.devRef .tc main_arg12)) slices_S2x256x128_S1x256x128_1_0_0) shapeCasts_S1x256x128_S256x128) (res_main_v59 V)

theorem lay0_eq (h : HoldsR P V) (H : Fin 2048 → Fin 128 → ℝ) : lay0 V (up3 fun _ : Fin 1 => H) = up3 fun _ : Fin 1 => P.layer 0 H := by
  unfold lay0
  rw [h.wq, h.wk, h.wv, h.wo, h.wpair, h.w1, h.w2, r_v59 h]
  refine (congr (congr (congr (congr (congr (congr (congrArg (fun q k v o p u d => layT _ q k v o p u d _) (cut_a 0 P.wq)) (cut_a 0 P.wk)) (cut_a 0 P.wv)) (cut_a 0 P.wo)) (cut_p 0 P.wpair))
    (cut_u 0 P.w1)) (cut_d 0 P.w2)).trans ((layT_eq _ _ _ _ _ _ _ _ _).trans ?_)
  exact congrArg (fun p => up3 fun _ : Fin 1 => layerS H p (P.wq 0) (P.wk 0) (P.wv 0) (P.wo 0) (P.w1 0) (P.w2 0)) (feat_pair 0)

theorem lay1_eq (h : HoldsR P V) (H : Fin 2048 → Fin 128 → ℝ) : lay1 V (up3 fun _ : Fin 1 => H) = up3 fun _ : Fin 1 => P.layer 1 H := by
  unfold lay1
  rw [h.wq, h.wk, h.wv, h.wo, h.wpair, h.w1, h.w2, r_v59 h]
  refine (congr (congr (congr (congr (congr (congr (congrArg (fun q k v o p u d => layT _ q k v o p u d _) (cut_a 1 P.wq)) (cut_a 1 P.wk)) (cut_a 1 P.wv)) (cut_a 1 P.wo)) (cut_p 1 P.wpair))
    (cut_u 1 P.w1)) (cut_d 1 P.w2)).trans ((layT_eq _ _ _ _ _ _ _ _ _).trans ?_)
  exact congrArg (fun p => up3 fun _ : Fin 1 => layerS H p (P.wq 1) (P.wk 1) (P.wv 1) (P.wo 1) (P.w1 1) (P.w2 1)) (feat_pair 1)

theorem r_v131_lay : res_main_v131 V = lay0 V (res_main_v30 V) := rfl

theorem res_eq (h : HoldsR P V) : lay1 V (lay0 V (res_main_v30 V)) = up3 fun _ : Fin 1 => P.enc := by
  rw [r_v30 h, lay0_eq h, lay1_eq h]
  rfl

end Cert.Enc

end
-- ==== Proof.Finite.lean ====
/- Finite arguments are arrays of reals. -/
module

public import proofs.«01_k».proof.Proof.Chain
public import proofs.«01_k».proof.Proof.RefChain
public import proofs.«01_k».proof.Defs

@[expose] public section

noncomputable section

namespace Cert.Enc

open Idealize.ShloMosaic Idealize.ShloMosaic.TcCoe Cert.KernelIdeal

/-- The shape relations that the precondition's operations take. -/
theorem pre_facts : Cert.Pre_finite_arguments.Facts := ⟨by decide, by decide, by decide, by decide, by decide, by decide, by decide, by decide⟩

/-- A number whose absolute value is less than infinity is real. -/
theorem real_of_lt (x : EReal) (h : max x (-x) < ⊤) : ∃ r : ℝ, x = (r : EReal) := by
  induction x with
  | bot => simp at h
  | coe r => exact ⟨r, rfl⟩
  | top => simp at h

theorem reals {s : Shape} (v : FVec Ideal s .f32) {hb : (⟨0, ![]⟩ : Shape).BroadcastsInDim s ![]}
    (h : cmpf .olt (Host.absf v) (broadcastInDim s ![] hb (constant ⟨0, ![]⟩ .f32 0x7F800000#32)) = fun _ => 1#1) : ∃ f : s.Idx → ℝ, ∀ i, v i = ((f i : ℝ) : EReal) := by
  refine Classical.skolem.1 fun i => real_of_lt _ ?_
  have hi : BitVec.ofBool (decide (max (v i) (-v i) < Ideal.ofBits .f32 0x7F800000#32)) = 1#1 := congrFun h i
  rw [← c_inf]
  by_contra hn
  rw [decide_eq_false hn] at hi
  exact absurd hi (by decide)

theorem reals1 {a : ℕ} (v : FVec Ideal ⟨1, ![a]⟩ .f32) (h : ∃ f : (⟨1, ![a]⟩ : Shape).Idx → ℝ, ∀ i, v i = ((f i : ℝ) : EReal)) : ∃ f, v = up1 f := by
  obtain ⟨f, hf⟩ := h
  exact ⟨fun i => f (ix1 i), eq_up1 _ _ fun i => hf _⟩

theorem reals2 {a b : ℕ} (v : FVec Ideal ⟨2, ![a, b]⟩ .f32) (h : ∃ f : (⟨2, ![a, b]⟩ : Shape).Idx → ℝ, ∀ i, v i = ((f i : ℝ) : EReal)) : ∃ f, v = up2 f := by
  obtain ⟨f, hf⟩ := h
  exact ⟨fun i j => f (ix2 i j), eq_up2 _ _ fun i j => hf _⟩

theorem reals3 {a b c : ℕ} (v : FVec Ideal ⟨3, ![a, b, c]⟩ .f32) (h : ∃ f : (⟨3, ![a, b, c]⟩ : Shape).Idx → ℝ, ∀ i, v i = ((f i : ℝ) : EReal)) : ∃ f, v = up3 f := by
  obtain ⟨f, hf⟩ := h
  exact ⟨fun i j k => f (ix3 i j k), eq_up3 _ _ fun i j k => hf _⟩

/-- The arguments of a memory are these on a device. -/
structure At (P : Par) (m : (ℓ : Loc nD τ sig) → Buf (Elt Ideal) ℓ) (c : Dev nD) : Prop where
  x : m ((c.tc : Thread nD τ).loc main_arg0) = up2 P.x
  emb : m ((c.tc : Thread nD τ).loc main_arg3) = up2 P.emb
  wpos : m ((c.tc : Thread nD τ).loc main_arg4) = up2 P.wpos
  bpos : m ((c.tc : Thread nD τ).loc main_arg5) = up1 P.bpos
  wq : m ((c.tc : Thread nD τ).loc main_arg6) = up3 P.wq
  wk : m ((c.tc : Thread nD τ).loc main_arg7) = up3 P.wk
  wv : m ((c.tc : Thread nD τ).loc main_arg8) = up3 P.wv
  wo : m ((c.tc : Thread nD τ).loc main_arg9) = up3 P.wo
  wpair : m ((c.tc : Thread nD τ).loc main_arg10) = up3 P.wpair
  w1 : m ((c.tc : Thread nD τ).loc main_arg11) = up3 P.w1
  w2 : m ((c.tc : Thread nD τ).loc main_arg12) = up3 P.w2

theorem exists_par (m : (ℓ : Loc nD τ sig) → Buf (Elt Ideal) ℓ) (hm : Cert.Pre_KernelIdeal_finite_arguments (hPre_finite_arguments := pre_facts) m) (c : Dev nD) :
    ∃ P : Par, At P m c := by
  obtain ⟨h0, h3, h4, h5, h6, h7, h8, h9, h10, h11, h12⟩ := hm c
  obtain ⟨x, e0⟩ := reals2 (m ((c.tc : Thread nD τ).loc main_arg0)) (reals (m ((c.tc : Thread nD τ).loc main_arg0)) h0)
  obtain ⟨emb, e3⟩ := reals2 (m ((c.tc : Thread nD τ).loc main_arg3)) (reals (m ((c.tc : Thread nD τ).loc main_arg3)) h3)
  obtain ⟨wpos, e4⟩ := reals2 (m ((c.tc : Thread nD τ).loc main_arg4)) (reals (m ((c.tc : Thread nD τ).loc main_arg4)) h4)
  obtain ⟨bpos, e5⟩ := reals1 (m ((c.tc : Thread nD τ).loc main_arg5)) (reals (m ((c.tc : Thread nD τ).loc main_arg5)) h5)
  obtain ⟨wq, e6⟩ := reals3 (m ((c.tc : Thread nD τ).loc main_arg6)) (reals (m ((c.tc : Thread nD τ).loc main_arg6)) h6)
  obtain ⟨wk, e7⟩ := reals3 (m ((c.tc : Thread nD τ).loc main_arg7)) (reals (m ((c.tc : Thread nD τ).loc main_arg7)) h7)
  obtain ⟨wv, e8⟩ := reals3 (m ((c.tc : Thread nD τ).loc main_arg8)) (reals (m ((c.tc : Thread nD τ).loc main_arg8)) h8)
  obtain ⟨wo, e9⟩ := reals3 (m ((c.tc : Thread nD τ).loc main_arg9)) (reals (m ((c.tc : Thread nD τ).loc main_arg9)) h9)
  obtain ⟨wpair, e10⟩ := reals3 (m ((c.tc : Thread nD τ).loc main_arg10)) (reals (m ((c.tc : Thread nD τ).loc main_arg10)) h10)
  obtain ⟨w1, e11⟩ := reals3 (m ((c.tc : Thread nD τ).loc main_arg11)) (reals (m ((c.tc : Thread nD τ).loc main_arg11)) h11)
  obtain ⟨w2, e12⟩ := reals3 (m ((c.tc : Thread nD τ).loc main_arg12)) (reals (m ((c.tc : Thread nD τ).loc main_arg12)) h12)
  exact ⟨⟨x, emb, wpos, bpos, wq, wk, wv, wo, wpair, w1, w2⟩, ⟨e0, e3, e4, e5, e6, e7, e8, e9, e10, e11, e12⟩⟩

end Cert.Enc

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The named constants of the idealized kernel, each at the value that its name stands for. -/
theorem preserves : Cert.preserves_Kernel_KernelIdeal :=
  ⟨IdealRules.named_const.statement Cert.KernelIdeal.κ "decay" .f32 0xC1F00000#32 ⊥ rfl,
   IdealRules.named_const.statement Cert.KernelIdeal.κ "ratio" .f32 0x40924925#32 ((32 / 7 : ℝ) : EReal) rfl,
   IdealRules.named_const.statement Cert.KernelIdeal.κ "centre1" .f32 0xBF272F05#32 ((-32 / 49 : ℝ) : EReal) rfl,
   IdealRules.named_const.statement Cert.KernelIdeal.κ "centre2" .f32 0xC0272F05#32 ((-128 / 49 : ℝ) : EReal) rfl,
   IdealRules.named_const.statement Cert.KernelIdeal.κ "centre3" .f32 0xC0BC14E6#32 ((-288 / 49 : ℝ) : EReal) rfl,
   IdealRules.named_const.statement Cert.KernelIdeal.κ "centre4" .f32 0xC1272F05#32 ((-512 / 49 : ℝ) : EReal) rfl,
   IdealRules.named_const.statement Cert.KernelIdeal.κ "centre5" .f32 0xC1829CBC#32 ((-800 / 49 : ℝ) : EReal) rfl,
   IdealRules.named_const.statement Cert.KernelIdeal.κ "centre6" .f32 0xC1BC14E6#32 ((-1152 / 49 : ℝ) : EReal) rfl,
   IdealRules.named_const.statement Cert.KernelIdeal.κ "floor" .f32 0xC2A00000#32 ⊥ rfl⟩

/-- The reference runs, its arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Both programs end at the encoder of the same real arguments. -/
theorem algebraic : Cert.algebraic_KernelIdeal_ReferenceIdeal_pre_finite_arguments (hPre_finite_arguments := Cert.Enc.pre_facts) := fun m g m' g' hm hargs => by
  choose P hP using Cert.Enc.exists_par m hm
  have hK (c : Dev Cert.KernelIdeal.nD) : Cert.Enc.Holds (P c) (Cert.KernelIdeal.Gen.W0 m g c) :=
    ⟨(hP c).x, (hP c).emb, (hP c).wpos, (hP c).bpos, (hP c).wq, (hP c).wk, (hP c).wv, (hP c).wo, (hP c).wpair, (hP c).w1, (hP c).w2⟩
  have hR (c : Dev Cert.KernelIdeal.nD) : Cert.Enc.HoldsR (P c) (Idealize.ShloMosaic.StableHlo.launchContents m' c) := by
    obtain ⟨a0, _, _, a3, a4, a5, a6, a7, a8, a9, a10, a11, a12⟩ := hargs c
    exact ⟨a0.trans (hP c).x, a3.trans (hP c).emb, a4.trans (hP c).wpos, a5.trans (hP c).bpos, a6.trans (hP c).wq, a7.trans (hP c).wk, a8.trans (hP c).wv, a9.trans (hP c).wo, a10.trans (hP c).wpair, a11.trans (hP c).w1, a12.trans (hP c).w2⟩
  refine ⟨fun c => Cert.Enc.up3 fun _ : Fin 1 => (P c).enc,
    (θ_run Cert.KernelIdeal.defs _ _).mono (fun r h c => ⟨(h c).1.trans (Cert.Enc.w15_result (hK c)), (h c).2⟩) (Cert.KernelIdeal.Launch.run m g),
    (θ_run Cert.ReferenceIdeal.defs _ _).mono (fun r h c => ⟨(h c).1.trans (Cert.Enc.res_eq (hR c)), (h c).2⟩) (Cert.ReferenceIdeal.Value.run m' g')⟩

theorem claim : Cert.Claim := ⟨Cert.Kernel.Gen.facts, Cert.KernelIdeal.Gen.facts, Cert.ReferenceIdeal.Gen.facts, Cert.Enc.pre_facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  preserves,
  algebraic⟩

end Cert.Proof

end
